-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S2048x2048 : Shape := ⟨2, ![2048, 2048]⟩
abbrev S3x128x512 : Shape := ⟨3, ![3, 128, 512]⟩
abbrev S3 : Shape := ⟨1, ![3]⟩
abbrev S_ : Shape := ⟨0, ![]⟩
abbrev S128x128 : Shape := ⟨2, ![128, 128]⟩
abbrev S128x512 : Shape := ⟨2, ![128, 512]⟩
abbrev S1x128x512 : Shape := ⟨3, ![1, 128, 512]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S2048x2048, .f32⟩
  | .local _ .vmem, ⟨0, _⟩ => ⟨S2048x128, .bf16⟩
  | .local _ .vmem, ⟨1, _⟩ => ⟨S128x2048, .bf16⟩
  | .local _ .vmem, ⟨2, _⟩ => ⟨S2048x2048, .f32⟩
  | .local _ .vmem, ⟨3, _⟩ => ⟨S3x128x512, .bf16⟩
  | .local _ .vmem, ⟨4, _⟩ => ⟨S3x128x512, .bf16⟩
  | .local _ .vmem, ⟨5, _⟩ => ⟨S3x128x512, .bf16⟩
  | .local _ .vmem, ⟨6, _⟩ => ⟨S3x128x512, .bf16⟩
  | .local _ .vmem, ⟨7, _⟩ => ⟨S3x128x512, .bf16⟩
  | .local _ .vmem, ⟨8, _⟩ => ⟨S3x128x512, .bf16⟩
  | .local _ .vmem, ⟨9, _⟩ => ⟨S3x128x512, .bf16⟩
  | .local _ .vmem, ⟨10, _⟩ => ⟨S3x128x512, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 9 51 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 8

abbrev nD : Nat := 16
abbrev τ : Topo := Topo.v7x

variable {F : FTy → Type} [FloatOps F]

abbrev grid0 : Pipeline.Grid := .none

def k0_off1 (d0 : Dev nD) (c8_i32_22 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v45 : BitVec 32 := Scalar.addi v13 c8_i32_22
  let c32_i32 : BitVec 32 := 32#32
  let v46 : BitVec 32 := Scalar.addi v45 c32_i32
  let c16_i32_23 : BitVec 32 := 16#32
  let v47 : BitVec 32 := Scalar.remsi v46 c16_i32_23
  let c128_i32 : BitVec 32 := 128#32
  let v48 : BitVec 32 := Scalar.muli v47 c128_i32
  let v49 : Index := Scalar.indexCast v48
  let c0 : Index := 0#32
  ![v49.toNat, 0]
def k0_off1_at (r : Fin 16) : BitVec 32 :=
  if r.val < 8 then
    if r.val < 4 then
      if r.val < 2 then
        if r.val < 1 then
          8#32
        else
          7#32
      else
        if r.val < 3 then
          4294967289#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          0#32
def k0_off2 (d0 : Dev nD) (c8_i32_22 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v45 : BitVec 32 := Scalar.addi v13 c8_i32_22
  let c32_i32 : BitVec 32 := 32#32
  let v46 : BitVec 32 := Scalar.addi v45 c32_i32
  let c16_i32_23 : BitVec 32 := 16#32
  let v47 : BitVec 32 := Scalar.remsi v46 c16_i32_23
  let c128_i32 : BitVec 32 := 128#32
  let v48 : BitVec 32 := Scalar.muli v47 c128_i32
  let v55 : Index := Scalar.indexCast v48
  let c0_26 : Index := 0#32
  ![v55.toNat, 0]
def k0_off2_at (r : Fin 16) : BitVec 32 :=
  if r.val < 8 then
    if r.val < 4 then
      if r.val < 2 then
        if r.val < 1 then
          8#32
        else
          7#32
      else
        if r.val < 3 then
          4294967289#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          0#32
def k0_dev1 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_45 : BitVec 32 := 1#32
  let v82 : BitVec 32 := Scalar.muli v29 c1_i32_45
  let v83 : BitVec 32 := Scalar.addi c0_i32_46 v82
  v83.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_48 : BitVec 32 := 1#32
  let v84 : BitVec 32 := Scalar.muli v44 c1_i32_48
  let v85 : BitVec 32 := Scalar.addi c0_i32_49 v84
  v85.toNat
def k0_off3 (d0 : Dev nD) (c8_i32_51 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v86 : BitVec 32 := Scalar.addi v13 c8_i32_51
  let c32_i32_52 : BitVec 32 := 32#32
  let v87 : BitVec 32 := Scalar.addi v86 c32_i32_52
  let c16_i32_53 : BitVec 32 := 16#32
  let v88 : BitVec 32 := Scalar.remsi v87 c16_i32_53
  let c128_i32_54 : BitVec 32 := 128#32
  let v89 : BitVec 32 := Scalar.muli v88 c128_i32_54
  let v90 : Index := Scalar.indexCast v89
  let c0_55 : Index := 0#32
  ![v90.toNat, 0]
def k0_off3_at (r : Fin 17) : BitVec 32 :=
  if r.val < 8 then
    if r.val < 4 then
      if r.val < 2 then
        if r.val < 1 then
          8#32
        else
          4294967289#32
      else
        if r.val < 3 then
          7#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          if r.val < 16 then
            0#32
          else
            4294967288#32
def k0_off4 (d0 : Dev nD) (c_m8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v97 : BitVec 32 := Scalar.addi v13 c_m8_i32
  let c32_i32_59 : BitVec 32 := 32#32
  let v98 : BitVec 32 := Scalar.addi v97 c32_i32_59
  let c16_i32_60 : BitVec 32 := 16#32
  let v99 : BitVec 32 := Scalar.remsi v98 c16_i32_60
  let c128_i32_61 : BitVec 32 := 128#32
  let v100 : BitVec 32 := Scalar.muli v99 c128_i32_61
  let v101 : Index := Scalar.indexCast v100
  let c1024 : Index := 1024#32
  ![v101.toNat, 1024]
def k0_off4_at (r : Fin 17) : BitVec 32 :=
  if r.val < 8 then
    if r.val < 4 then
      if r.val < 2 then
        if r.val < 1 then
          4294967288#32
        else
          7#32
      else
        if r.val < 3 then
          4294967289#32
        else
          4294967290#32
    else
      if r.val < 6 then
        if r.val < 5 then
          6#32
        else
          4294967291#32
      else
        if r.val < 7 then
          5#32
        else
          4294967292#32
  else
    if r.val < 12 then
      if r.val < 10 then
        if r.val < 9 then
          4#32
        else
          4294967293#32
      else
        if r.val < 11 then
          3#32
        else
          4294967294#32
    else
      if r.val < 14 then
        if r.val < 13 then
          2#32
        else
          4294967295#32
      else
        if r.val < 15 then
          1#32
        else
          if r.val < 16 then
            0#32
          else
            8#32
def k0_off5 (d0 : Dev nD) (c8_i32_65 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v108 : BitVec 32 := Scalar.addi v13 c8_i32_65
  let c32_i32_66 : BitVec 32 := 32#32
  let v109 : BitVec 32 := Scalar.addi v108 c32_i32_66
  let c16_i32_67 : BitVec 32 := 16#32
  let v110 : BitVec 32 := Scalar.remsi v109 c16_i32_67
  let c128_i32_68 : BitVec 32 := 128#32
  let v111 : BitVec 32 := Scalar.muli v110 c128_i32_68
  let v112 : Index := Scalar.indexCast v111
  let c512 : Index := 512#32
  ![v112.toNat, 512]
def k0_off5_at (r : Fin 17) : BitVec 32 :=
  if r.val < 8 then
    if r.val < 4 then
      if r.val < 2 then
        if r.val < 1 then
          8#32
        else
          4294967289#32
      else
        if r.val < 3 then
          7#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          if r.val < 16 then
            0#32
          else
            4294967288#32
def k0_off6 (d0 : Dev nD) (c_m8_i32_72 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v119 : BitVec 32 := Scalar.addi v13 c_m8_i32_72
  let c32_i32_73 : BitVec 32 := 32#32
  let v120 : BitVec 32 := Scalar.addi v119 c32_i32_73
  let c16_i32_74 : BitVec 32 := 16#32
  let v121 : BitVec 32 := Scalar.remsi v120 c16_i32_74
  let c128_i32_75 : BitVec 32 := 128#32
  let v122 : BitVec 32 := Scalar.muli v121 c128_i32_75
  let v123 : Index := Scalar.indexCast v122
  let c1536 : Index := 1536#32
  ![v123.toNat, 1536]
def k0_off6_at (r : Fin 17) : BitVec 32 :=
  if r.val < 8 then
    if r.val < 4 then
      if r.val < 2 then
        if r.val < 1 then
          4294967288#32
        else
          7#32
      else
        if r.val < 3 then
          4294967289#32
        else
          4294967290#32
    else
      if r.val < 6 then
        if r.val < 5 then
          6#32
        else
          4294967291#32
      else
        if r.val < 7 then
          5#32
        else
          4294967292#32
  else
    if r.val < 12 then
      if r.val < 10 then
        if r.val < 9 then
          4#32
        else
          4294967293#32
      else
        if r.val < 11 then
          3#32
        else
          4294967294#32
    else
      if r.val < 14 then
        if r.val < 13 then
          2#32
        else
          4294967295#32
      else
        if r.val < 15 then
          1#32
        else
          if r.val < 16 then
            0#32
          else
            8#32
def k0_dev3 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_115 : BitVec 32 := 1#32
  let v174 : BitVec 32 := Scalar.muli v44 c1_i32_115
  let v175 : BitVec 32 := Scalar.addi c0_i32_116 v174
  v175.toNat
def k0_dev4 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_125 : BitVec 32 := 1#32
  let v184 : BitVec 32 := Scalar.muli v29 c1_i32_125
  let v185 : BitVec 32 := Scalar.addi c0_i32_126 v184
  v185.toNat
def k0_dev5 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_244 : BitVec 32 := 1#32
  let v350 : BitVec 32 := Scalar.muli v44 c1_i32_244
  let v351 : BitVec 32 := Scalar.addi c0_i32_245 v350
  v351.toNat
def k0_dev6 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_254 : BitVec 32 := 1#32
  let v360 : BitVec 32 := Scalar.muli v29 c1_i32_254
  let v361 : BitVec 32 := Scalar.addi c0_i32_255 v360
  v361.toNat
def k0_dev7 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_270 : BitVec 32 := 1#32
  let v376 : BitVec 32 := Scalar.muli v29 c1_i32_270
  let v377 : BitVec 32 := Scalar.addi c0_i32_271 v376
  v377.toNat
def k0_dev8 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_302 : BitVec 32 := 1#32
  let v406 : BitVec 32 := Scalar.muli v44 c1_i32_302
  let v407 : BitVec 32 := Scalar.addi c0_i32_303 v406
  v407.toNat
def k0_dev9 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_329 : BitVec 32 := 1#32
  let v430 : BitVec 32 := Scalar.muli v44 c1_i32_329
  let v431 : BitVec 32 := Scalar.addi c0_i32_330 v430
  v431.toNat
def k0_dev10 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_339 : BitVec 32 := 1#32
  let v440 : BitVec 32 := Scalar.muli v29 c1_i32_339
  let v441 : BitVec 32 := Scalar.addi c0_i32_340 v440
  v441.toNat
def k0_dev11 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_349 : BitVec 32 := 1#32
  let v450 : BitVec 32 := Scalar.muli v29 c1_i32_349
  let v451 : BitVec 32 := Scalar.addi c0_i32_350 v450
  v451.toNat
def k0_dev12 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_359 : BitVec 32 := 1#32
  let v460 : BitVec 32 := Scalar.muli v44 c1_i32_359
  let v461 : BitVec 32 := Scalar.addi c0_i32_360 v460
  v461.toNat
def k0_dev13 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_375 : BitVec 32 := 1#32
  let v476 : BitVec 32 := Scalar.muli v29 c1_i32_375
  let v477 : BitVec 32 := Scalar.addi c0_i32_376 v476
  v477.toNat
def k0_dev14 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_408 : BitVec 32 := 1#32
  let v506 : BitVec 32 := Scalar.muli v44 c1_i32_408
  let v507 : BitVec 32 := Scalar.addi c0_i32_409 v506
  v507.toNat
def k0_dev15 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_435 : BitVec 32 := 1#32
  let v530 : BitVec 32 := Scalar.muli v44 c1_i32_435
  let v531 : BitVec 32 := Scalar.addi c0_i32_436 v530
  v531.toNat
def k0_dev16 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_445 : BitVec 32 := 1#32
  let v540 : BitVec 32 := Scalar.muli v29 c1_i32_445
  let v541 : BitVec 32 := Scalar.addi c0_i32_446 v540
  v541.toNat
def k0_dev17 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_455 : BitVec 32 := 1#32
  let v550 : BitVec 32 := Scalar.muli v29 c1_i32_455
  let v551 : BitVec 32 := Scalar.addi c0_i32_456 v550
  v551.toNat
def k0_dev18 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_465 : BitVec 32 := 1#32
  let v560 : BitVec 32 := Scalar.muli v44 c1_i32_465
  let v561 : BitVec 32 := Scalar.addi c0_i32_466 v560
  v561.toNat
def k0_dev19 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_481 : BitVec 32 := 1#32
  let v576 : BitVec 32 := Scalar.muli v29 c1_i32_481
  let v577 : BitVec 32 := Scalar.addi c0_i32_482 v576
  v577.toNat
def k0_dev20 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_513 : BitVec 32 := 1#32
  let v606 : BitVec 32 := Scalar.muli v44 c1_i32_513
  let v607 : BitVec 32 := Scalar.addi c0_i32_514 v606
  v607.toNat
def k0_dev21 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_546 : BitVec 32 := 1#32
  let v636 : BitVec 32 := Scalar.muli v44 c1_i32_546
  let v637 : BitVec 32 := Scalar.addi c0_i32_547 v636
  v637.toNat
def k0_dev22 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_579 : BitVec 32 := 1#32
  let v666 : BitVec 32 := Scalar.muli v29 c1_i32_579
  let v667 : BitVec 32 := Scalar.addi c0_i32_580 v666
  v667.toNat
def k0_dev23 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_608 : BitVec 32 := 1#32
  let v690 : BitVec 32 := Scalar.muli v44 c1_i32_608
  let v691 : BitVec 32 := Scalar.addi c0_i32_609 v690
  v691.toNat
def k0_dev24 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_620 : BitVec 32 := 1#32
  let v700 : BitVec 32 := Scalar.muli v29 c1_i32_620
  let v701 : BitVec 32 := Scalar.addi c0_i32_621 v700
  v701.toNat
def k0_dev25 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_630 : BitVec 32 := 1#32
  let v710 : BitVec 32 := Scalar.muli v29 c1_i32_630
  let v711 : BitVec 32 := Scalar.addi c0_i32_631 v710
  v711.toNat
def k0_dev26 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_640 : BitVec 32 := 1#32
  let v720 : BitVec 32 := Scalar.muli v44 c1_i32_640
  let v721 : BitVec 32 := Scalar.addi c0_i32_641 v720
  v721.toNat
def k0_dev27 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_656 : BitVec 32 := 1#32
  let v736 : BitVec 32 := Scalar.muli v29 c1_i32_656
  let v737 : BitVec 32 := Scalar.addi c0_i32_657 v736
  v737.toNat
def k0_dev28 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_689 : BitVec 32 := 1#32
  let v766 : BitVec 32 := Scalar.muli v44 c1_i32_689
  let v767 : BitVec 32 := Scalar.addi c0_i32_690 v766
  v767.toNat
def k0_dev29 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_722 : BitVec 32 := 1#32
  let v796 : BitVec 32 := Scalar.muli v44 c1_i32_722
  let v797 : BitVec 32 := Scalar.addi c0_i32_723 v796
  v797.toNat
def k0_dev30 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_755 : BitVec 32 := 1#32
  let v826 : BitVec 32 := Scalar.muli v29 c1_i32_755
  let v827 : BitVec 32 := Scalar.addi c0_i32_756 v826
  v827.toNat
def k0_dev31 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_784 : BitVec 32 := 1#32
  let v850 : BitVec 32 := Scalar.muli v44 c1_i32_784
  let v851 : BitVec 32 := Scalar.addi c0_i32_785 v850
  v851.toNat
def k0_dev32 (d0 : Dev nD) : Nat :=
  let c0_i32_797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_796 : BitVec 32 := 1#32
  let v860 : BitVec 32 := Scalar.muli v29 c1_i32_796
  let v861 : BitVec 32 := Scalar.addi c0_i32_797 v860
  v861.toNat
def k0_dev33 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_806 : BitVec 32 := 1#32
  let v870 : BitVec 32 := Scalar.muli v29 c1_i32_806
  let v871 : BitVec 32 := Scalar.addi c0_i32_807 v870
  v871.toNat
def k0_dev34 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_816 : BitVec 32 := 1#32
  let v880 : BitVec 32 := Scalar.muli v44 c1_i32_816
  let v881 : BitVec 32 := Scalar.addi c0_i32_817 v880
  v881.toNat
def k0_dev35 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_832 : BitVec 32 := 1#32
  let v896 : BitVec 32 := Scalar.muli v29 c1_i32_832
  let v897 : BitVec 32 := Scalar.addi c0_i32_833 v896
  v897.toNat
def k0_dev36 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_865 : BitVec 32 := 1#32
  let v926 : BitVec 32 := Scalar.muli v44 c1_i32_865
  let v927 : BitVec 32 := Scalar.addi c0_i32_866 v926
  v927.toNat
def k0_dev37 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_898 : BitVec 32 := 1#32
  let v956 : BitVec 32 := Scalar.muli v44 c1_i32_898
  let v957 : BitVec 32 := Scalar.addi c0_i32_899 v956
  v957.toNat
def k0_dev38 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_931 : BitVec 32 := 1#32
  let v986 : BitVec 32 := Scalar.muli v29 c1_i32_931
  let v987 : BitVec 32 := Scalar.addi c0_i32_932 v986
  v987.toNat
def k0_dev39 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_960 : BitVec 32 := 1#32
  let v1010 : BitVec 32 := Scalar.muli v44 c1_i32_960
  let v1011 : BitVec 32 := Scalar.addi c0_i32_961 v1010
  v1011.toNat
def k0_dev40 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_972 : BitVec 32 := 1#32
  let v1020 : BitVec 32 := Scalar.muli v29 c1_i32_972
  let v1021 : BitVec 32 := Scalar.addi c0_i32_973 v1020
  v1021.toNat
def k0_dev41 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_984 : BitVec 32 := 1#32
  let v1030 : BitVec 32 := Scalar.muli v29 c1_i32_984
  let v1031 : BitVec 32 := Scalar.addi c0_i32_985 v1030
  v1031.toNat
def k0_dev42 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_996 : BitVec 32 := 1#32
  let v1040 : BitVec 32 := Scalar.muli v44 c1_i32_996
  let v1041 : BitVec 32 := Scalar.addi c0_i32_997 v1040
  v1041.toNat
def k0_dev43 (d0 : Dev nD) : Nat :=
  let c0_i32_1013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1012 : BitVec 32 := 1#32
  let v1056 : BitVec 32 := Scalar.muli v29 c1_i32_1012
  let v1057 : BitVec 32 := Scalar.addi c0_i32_1013 v1056
  v1057.toNat
def k0_dev44 (d0 : Dev nD) : Nat :=
  let c0_i32_1046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1045 : BitVec 32 := 1#32
  let v1086 : BitVec 32 := Scalar.muli v44 c1_i32_1045
  let v1087 : BitVec 32 := Scalar.addi c0_i32_1046 v1086
  v1087.toNat
def k0_dev45 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1078 : BitVec 32 := 1#32
  let v1116 : BitVec 32 := Scalar.muli v44 c1_i32_1078
  let v1117 : BitVec 32 := Scalar.addi c0_i32_1079 v1116
  v1117.toNat
def k0_dev46 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1111 : BitVec 32 := 1#32
  let v1146 : BitVec 32 := Scalar.muli v29 c1_i32_1111
  let v1147 : BitVec 32 := Scalar.addi c0_i32_1112 v1146
  v1147.toNat
def k0_dev47 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1140 : BitVec 32 := 1#32
  let v1170 : BitVec 32 := Scalar.muli v44 c1_i32_1140
  let v1171 : BitVec 32 := Scalar.addi c0_i32_1141 v1170
  v1171.toNat
def k0_dev48 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1152 : BitVec 32 := 1#32
  let v1180 : BitVec 32 := Scalar.muli v29 c1_i32_1152
  let v1181 : BitVec 32 := Scalar.addi c0_i32_1153 v1180
  v1181.toNat
def k0_dev49 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1164 : BitVec 32 := 1#32
  let v1190 : BitVec 32 := Scalar.muli v29 c1_i32_1164
  let v1191 : BitVec 32 := Scalar.addi c0_i32_1165 v1190
  v1191.toNat
def k0_dev50 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1176 : BitVec 32 := 1#32
  let v1200 : BitVec 32 := Scalar.muli v44 c1_i32_1176
  let v1201 : BitVec 32 := Scalar.addi c0_i32_1177 v1200
  v1201.toNat
def k0_dev51 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1192 : BitVec 32 := 1#32
  let v1216 : BitVec 32 := Scalar.muli v29 c1_i32_1192
  let v1217 : BitVec 32 := Scalar.addi c0_i32_1193 v1216
  v1217.toNat
def k0_dev52 (d0 : Dev nD) : Nat :=
  let c0_i32_1226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1225 : BitVec 32 := 1#32
  let v1246 : BitVec 32 := Scalar.muli v44 c1_i32_1225
  let v1247 : BitVec 32 := Scalar.addi c0_i32_1226 v1246
  v1247.toNat
def k0_dev53 (d0 : Dev nD) : Nat :=
  let c0_i32_1259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1258 : BitVec 32 := 1#32
  let v1276 : BitVec 32 := Scalar.muli v44 c1_i32_1258
  let v1277 : BitVec 32 := Scalar.addi c0_i32_1259 v1276
  v1277.toNat
def k0_dev54 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1291 : BitVec 32 := 1#32
  let v1306 : BitVec 32 := Scalar.muli v29 c1_i32_1291
  let v1307 : BitVec 32 := Scalar.addi c0_i32_1292 v1306
  v1307.toNat
def k0_dev55 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1320 : BitVec 32 := 1#32
  let v1330 : BitVec 32 := Scalar.muli v44 c1_i32_1320
  let v1331 : BitVec 32 := Scalar.addi c0_i32_1321 v1330
  v1331.toNat
def k0_dev56 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1332 : BitVec 32 := 1#32
  let v1340 : BitVec 32 := Scalar.muli v29 c1_i32_1332
  let v1341 : BitVec 32 := Scalar.addi c0_i32_1333 v1340
  v1341.toNat
def k0_dev57 (d0 : Dev nD) : Nat :=
  let c0_i32_1345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1344 : BitVec 32 := 1#32
  let v1350 : BitVec 32 := Scalar.muli v29 c1_i32_1344
  let v1351 : BitVec 32 := Scalar.addi c0_i32_1345 v1350
  v1351.toNat
def k0_dev58 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1356 : BitVec 32 := 1#32
  let v1360 : BitVec 32 := Scalar.muli v44 c1_i32_1356
  let v1361 : BitVec 32 := Scalar.addi c0_i32_1357 v1360
  v1361.toNat
def k0_dev59 (d0 : Dev nD) : Nat :=
  let c0_i32_1373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1372 : BitVec 32 := 1#32
  let v1376 : BitVec 32 := Scalar.muli v29 c1_i32_1372
  let v1377 : BitVec 32 := Scalar.addi c0_i32_1373 v1376
  v1377.toNat
def k0_dev60 (d0 : Dev nD) : Nat :=
  let c0_i32_1406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1405 : BitVec 32 := 1#32
  let v1406 : BitVec 32 := Scalar.muli v44 c1_i32_1405
  let v1407 : BitVec 32 := Scalar.addi c0_i32_1406 v1406
  v1407.toNat
def k0_dev61 (d0 : Dev nD) : Nat :=
  let c0_i32_1439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1438 : BitVec 32 := 1#32
  let v1436 : BitVec 32 := Scalar.muli v44 c1_i32_1438
  let v1437 : BitVec 32 := Scalar.addi c0_i32_1439 v1436
  v1437.toNat
def k0_dev62 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1471 : BitVec 32 := 1#32
  let v1466 : BitVec 32 := Scalar.muli v29 c1_i32_1471
  let v1467 : BitVec 32 := Scalar.addi c0_i32_1472 v1466
  v1467.toNat
def k0_dev63 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1500 : BitVec 32 := 1#32
  let v1490 : BitVec 32 := Scalar.muli v44 c1_i32_1500
  let v1491 : BitVec 32 := Scalar.addi c0_i32_1501 v1490
  v1491.toNat
def k0_dev64 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1512 : BitVec 32 := 1#32
  let v1500 : BitVec 32 := Scalar.muli v29 c1_i32_1512
  let v1501 : BitVec 32 := Scalar.addi c0_i32_1513 v1500
  v1501.toNat
def k0_dev65 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1524 : BitVec 32 := 1#32
  let v1510 : BitVec 32 := Scalar.muli v29 c1_i32_1524
  let v1511 : BitVec 32 := Scalar.addi c0_i32_1525 v1510
  v1511.toNat
def k0_dev66 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1536 : BitVec 32 := 1#32
  let v1520 : BitVec 32 := Scalar.muli v44 c1_i32_1536
  let v1521 : BitVec 32 := Scalar.addi c0_i32_1537 v1520
  v1521.toNat
def k0_dev67 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1552 : BitVec 32 := 1#32
  let v1536 : BitVec 32 := Scalar.muli v29 c1_i32_1552
  let v1537 : BitVec 32 := Scalar.addi c0_i32_1553 v1536
  v1537.toNat
def k0_dev68 (d0 : Dev nD) : Nat :=
  let c0_i32_1586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1585 : BitVec 32 := 1#32
  let v1566 : BitVec 32 := Scalar.muli v44 c1_i32_1585
  let v1567 : BitVec 32 := Scalar.addi c0_i32_1586 v1566
  v1567.toNat
def k0_dev69 (d0 : Dev nD) : Nat :=
  let c0_i32_1619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1618 : BitVec 32 := 1#32
  let v1596 : BitVec 32 := Scalar.muli v44 c1_i32_1618
  let v1597 : BitVec 32 := Scalar.addi c0_i32_1619 v1596
  v1597.toNat
def k0_dev70 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1651 : BitVec 32 := 1#32
  let v1626 : BitVec 32 := Scalar.muli v29 c1_i32_1651
  let v1627 : BitVec 32 := Scalar.addi c0_i32_1652 v1626
  v1627.toNat
def k0_dev71 (d0 : Dev nD) : Nat :=
  let c0_i32_1681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1680 : BitVec 32 := 1#32
  let v1650 : BitVec 32 := Scalar.muli v44 c1_i32_1680
  let v1651 : BitVec 32 := Scalar.addi c0_i32_1681 v1650
  v1651.toNat
def k0_dev72 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1692 : BitVec 32 := 1#32
  let v1660 : BitVec 32 := Scalar.muli v29 c1_i32_1692
  let v1661 : BitVec 32 := Scalar.addi c0_i32_1693 v1660
  v1661.toNat
def k0_dev73 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1704 : BitVec 32 := 1#32
  let v1670 : BitVec 32 := Scalar.muli v29 c1_i32_1704
  let v1671 : BitVec 32 := Scalar.addi c0_i32_1705 v1670
  v1671.toNat
def k0_dev74 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1716 : BitVec 32 := 1#32
  let v1680 : BitVec 32 := Scalar.muli v44 c1_i32_1716
  let v1681 : BitVec 32 := Scalar.addi c0_i32_1717 v1680
  v1681.toNat
def k0_dev75 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1732 : BitVec 32 := 1#32
  let v1696 : BitVec 32 := Scalar.muli v29 c1_i32_1732
  let v1697 : BitVec 32 := Scalar.addi c0_i32_1733 v1696
  v1697.toNat
def k0_dev76 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1765 : BitVec 32 := 1#32
  let v1726 : BitVec 32 := Scalar.muli v44 c1_i32_1765
  let v1727 : BitVec 32 := Scalar.addi c0_i32_1766 v1726
  v1727.toNat
def k0_dev77 (d0 : Dev nD) : Nat :=
  let c0_i32_1799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1798 : BitVec 32 := 1#32
  let v1756 : BitVec 32 := Scalar.muli v44 c1_i32_1798
  let v1757 : BitVec 32 := Scalar.addi c0_i32_1799 v1756
  v1757.toNat
def k0_dev78 (d0 : Dev nD) : Nat :=
  let c0_i32_1832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1831 : BitVec 32 := 1#32
  let v1786 : BitVec 32 := Scalar.muli v29 c1_i32_1831
  let v1787 : BitVec 32 := Scalar.addi c0_i32_1832 v1786
  v1787.toNat
def k0_dev79 (d0 : Dev nD) : Nat :=
  let c0_i32_1861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1860 : BitVec 32 := 1#32
  let v1810 : BitVec 32 := Scalar.muli v44 c1_i32_1860
  let v1811 : BitVec 32 := Scalar.addi c0_i32_1861 v1810
  v1811.toNat
def k0_dev80 (d0 : Dev nD) : Nat :=
  let c0_i32_1873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1872 : BitVec 32 := 1#32
  let v1820 : BitVec 32 := Scalar.muli v29 c1_i32_1872
  let v1821 : BitVec 32 := Scalar.addi c0_i32_1873 v1820
  v1821.toNat
def k0_dev81 (d0 : Dev nD) : Nat :=
  let c0_i32_1885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1884 : BitVec 32 := 1#32
  let v1830 : BitVec 32 := Scalar.muli v29 c1_i32_1884
  let v1831 : BitVec 32 := Scalar.addi c0_i32_1885 v1830
  v1831.toNat
def k0_dev82 (d0 : Dev nD) : Nat :=
  let c0_i32_1897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1896 : BitVec 32 := 1#32
  let v1840 : BitVec 32 := Scalar.muli v44 c1_i32_1896
  let v1841 : BitVec 32 := Scalar.addi c0_i32_1897 v1840
  v1841.toNat
def k0_dev83 (d0 : Dev nD) : Nat :=
  let c0_i32_1913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_1912 : BitVec 32 := 1#32
  let v1856 : BitVec 32 := Scalar.muli v29 c1_i32_1912
  let v1857 : BitVec 32 := Scalar.addi c0_i32_1913 v1856
  v1857.toNat
def k0_dev84 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1945 : BitVec 32 := 1#32
  let v1886 : BitVec 32 := Scalar.muli v44 c1_i32_1945
  let v1887 : BitVec 32 := Scalar.addi c0_i32_1946 v1886
  v1887.toNat
def k0_dev85 (d0 : Dev nD) : Nat :=
  let c0_i32_1979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_1978 : BitVec 32 := 1#32
  let v1916 : BitVec 32 := Scalar.muli v44 c1_i32_1978
  let v1917 : BitVec 32 := Scalar.addi c0_i32_1979 v1916
  v1917.toNat
def k0_dev86 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2011 : BitVec 32 := 1#32
  let v1946 : BitVec 32 := Scalar.muli v29 c1_i32_2011
  let v1947 : BitVec 32 := Scalar.addi c0_i32_2012 v1946
  v1947.toNat
def k0_dev87 (d0 : Dev nD) : Nat :=
  let c0_i32_2041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2040 : BitVec 32 := 1#32
  let v1970 : BitVec 32 := Scalar.muli v44 c1_i32_2040
  let v1971 : BitVec 32 := Scalar.addi c0_i32_2041 v1970
  v1971.toNat
def k0_dev88 (d0 : Dev nD) : Nat :=
  let c0_i32_2053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2052 : BitVec 32 := 1#32
  let v1980 : BitVec 32 := Scalar.muli v29 c1_i32_2052
  let v1981 : BitVec 32 := Scalar.addi c0_i32_2053 v1980
  v1981.toNat
def k0_dev89 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2064 : BitVec 32 := 1#32
  let v1990 : BitVec 32 := Scalar.muli v29 c1_i32_2064
  let v1991 : BitVec 32 := Scalar.addi c0_i32_2065 v1990
  v1991.toNat
def k0_dev90 (d0 : Dev nD) : Nat :=
  let c0_i32_2077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2076 : BitVec 32 := 1#32
  let v2000 : BitVec 32 := Scalar.muli v44 c1_i32_2076
  let v2001 : BitVec 32 := Scalar.addi c0_i32_2077 v2000
  v2001.toNat
def k0_dev91 (d0 : Dev nD) : Nat :=
  let c0_i32_2093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2092 : BitVec 32 := 1#32
  let v2016 : BitVec 32 := Scalar.muli v29 c1_i32_2092
  let v2017 : BitVec 32 := Scalar.addi c0_i32_2093 v2016
  v2017.toNat
def k0_dev92 (d0 : Dev nD) : Nat :=
  let c0_i32_2126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2125 : BitVec 32 := 1#32
  let v2046 : BitVec 32 := Scalar.muli v44 c1_i32_2125
  let v2047 : BitVec 32 := Scalar.addi c0_i32_2126 v2046
  v2047.toNat
def k0_dev93 (d0 : Dev nD) : Nat :=
  let c0_i32_2159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2158 : BitVec 32 := 1#32
  let v2076 : BitVec 32 := Scalar.muli v44 c1_i32_2158
  let v2077 : BitVec 32 := Scalar.addi c0_i32_2159 v2076
  v2077.toNat
def k0_dev94 (d0 : Dev nD) : Nat :=
  let c0_i32_2192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2191 : BitVec 32 := 1#32
  let v2106 : BitVec 32 := Scalar.muli v29 c1_i32_2191
  let v2107 : BitVec 32 := Scalar.addi c0_i32_2192 v2106
  v2107.toNat
def k0_dev95 (d0 : Dev nD) : Nat :=
  let c0_i32_2221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2220 : BitVec 32 := 1#32
  let v2130 : BitVec 32 := Scalar.muli v44 c1_i32_2220
  let v2131 : BitVec 32 := Scalar.addi c0_i32_2221 v2130
  v2131.toNat
def k0_dev96 (d0 : Dev nD) : Nat :=
  let c0_i32_2233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2232 : BitVec 32 := 1#32
  let v2140 : BitVec 32 := Scalar.muli v29 c1_i32_2232
  let v2141 : BitVec 32 := Scalar.addi c0_i32_2233 v2140
  v2141.toNat
def k0_dev97 (d0 : Dev nD) : Nat :=
  let c0_i32_2245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2244 : BitVec 32 := 1#32
  let v2150 : BitVec 32 := Scalar.muli v29 c1_i32_2244
  let v2151 : BitVec 32 := Scalar.addi c0_i32_2245 v2150
  v2151.toNat
def k0_dev98 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2256 : BitVec 32 := 1#32
  let v2160 : BitVec 32 := Scalar.muli v44 c1_i32_2256
  let v2161 : BitVec 32 := Scalar.addi c0_i32_2257 v2160
  v2161.toNat
def k0_dev99 (d0 : Dev nD) : Nat :=
  let c0_i32_2273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2272 : BitVec 32 := 1#32
  let v2176 : BitVec 32 := Scalar.muli v29 c1_i32_2272
  let v2177 : BitVec 32 := Scalar.addi c0_i32_2273 v2176
  v2177.toNat
def k0_dev100 (d0 : Dev nD) : Nat :=
  let c0_i32_2306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2305 : BitVec 32 := 1#32
  let v2206 : BitVec 32 := Scalar.muli v44 c1_i32_2305
  let v2207 : BitVec 32 := Scalar.addi c0_i32_2306 v2206
  v2207.toNat
def k0_dev101 (d0 : Dev nD) : Nat :=
  let c0_i32_2339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2338 : BitVec 32 := 1#32
  let v2236 : BitVec 32 := Scalar.muli v44 c1_i32_2338
  let v2237 : BitVec 32 := Scalar.addi c0_i32_2339 v2236
  v2237.toNat
def k0_dev102 (d0 : Dev nD) : Nat :=
  let c0_i32_2372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2371 : BitVec 32 := 1#32
  let v2266 : BitVec 32 := Scalar.muli v29 c1_i32_2371
  let v2267 : BitVec 32 := Scalar.addi c0_i32_2372 v2266
  v2267.toNat
def k0_dev103 (d0 : Dev nD) : Nat :=
  let c0_i32_2401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2400 : BitVec 32 := 1#32
  let v2290 : BitVec 32 := Scalar.muli v44 c1_i32_2400
  let v2291 : BitVec 32 := Scalar.addi c0_i32_2401 v2290
  v2291.toNat
def k0_dev104 (d0 : Dev nD) : Nat :=
  let c0_i32_2413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2412 : BitVec 32 := 1#32
  let v2300 : BitVec 32 := Scalar.muli v29 c1_i32_2412
  let v2301 : BitVec 32 := Scalar.addi c0_i32_2413 v2300
  v2301.toNat
def k0_dev105 (d0 : Dev nD) : Nat :=
  let c0_i32_2425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2424 : BitVec 32 := 1#32
  let v2310 : BitVec 32 := Scalar.muli v29 c1_i32_2424
  let v2311 : BitVec 32 := Scalar.addi c0_i32_2425 v2310
  v2311.toNat
def k0_dev106 (d0 : Dev nD) : Nat :=
  let c0_i32_2437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2436 : BitVec 32 := 1#32
  let v2320 : BitVec 32 := Scalar.muli v44 c1_i32_2436
  let v2321 : BitVec 32 := Scalar.addi c0_i32_2437 v2320
  v2321.toNat
def k0_dev107 (d0 : Dev nD) : Nat :=
  let c0_i32_2453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2452 : BitVec 32 := 1#32
  let v2336 : BitVec 32 := Scalar.muli v29 c1_i32_2452
  let v2337 : BitVec 32 := Scalar.addi c0_i32_2453 v2336
  v2337.toNat
def k0_dev108 (d0 : Dev nD) : Nat :=
  let c0_i32_2486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2485 : BitVec 32 := 1#32
  let v2366 : BitVec 32 := Scalar.muli v44 c1_i32_2485
  let v2367 : BitVec 32 := Scalar.addi c0_i32_2486 v2366
  v2367.toNat
def k0_dev109 (d0 : Dev nD) : Nat :=
  let c0_i32_2519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2518 : BitVec 32 := 1#32
  let v2396 : BitVec 32 := Scalar.muli v44 c1_i32_2518
  let v2397 : BitVec 32 := Scalar.addi c0_i32_2519 v2396
  v2397.toNat
def k0_dev110 (d0 : Dev nD) : Nat :=
  let c0_i32_2552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2551 : BitVec 32 := 1#32
  let v2426 : BitVec 32 := Scalar.muli v29 c1_i32_2551
  let v2427 : BitVec 32 := Scalar.addi c0_i32_2552 v2426
  v2427.toNat
def k0_dev111 (d0 : Dev nD) : Nat :=
  let c0_i32_2581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2580 : BitVec 32 := 1#32
  let v2450 : BitVec 32 := Scalar.muli v44 c1_i32_2580
  let v2451 : BitVec 32 := Scalar.addi c0_i32_2581 v2450
  v2451.toNat
def k0_dev112 (d0 : Dev nD) : Nat :=
  let c0_i32_2593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2592 : BitVec 32 := 1#32
  let v2460 : BitVec 32 := Scalar.muli v29 c1_i32_2592
  let v2461 : BitVec 32 := Scalar.addi c0_i32_2593 v2460
  v2461.toNat
def k0_dev113 (d0 : Dev nD) : Nat :=
  let c0_i32_2605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2604 : BitVec 32 := 1#32
  let v2470 : BitVec 32 := Scalar.muli v29 c1_i32_2604
  let v2471 : BitVec 32 := Scalar.addi c0_i32_2605 v2470
  v2471.toNat
def k0_dev114 (d0 : Dev nD) : Nat :=
  let c0_i32_2617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2616 : BitVec 32 := 1#32
  let v2480 : BitVec 32 := Scalar.muli v44 c1_i32_2616
  let v2481 : BitVec 32 := Scalar.addi c0_i32_2617 v2480
  v2481.toNat
def k0_dev115 (d0 : Dev nD) : Nat :=
  let c0_i32_2633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2632 : BitVec 32 := 1#32
  let v2496 : BitVec 32 := Scalar.muli v29 c1_i32_2632
  let v2497 : BitVec 32 := Scalar.addi c0_i32_2633 v2496
  v2497.toNat
def k0_dev116 (d0 : Dev nD) : Nat :=
  let c0_i32_2655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2654 : BitVec 32 := 1#32
  let v2512 : BitVec 32 := Scalar.muli v44 c1_i32_2654
  let v2513 : BitVec 32 := Scalar.addi c0_i32_2655 v2512
  v2513.toNat
def k0_dev117 (d0 : Dev nD) : Nat :=
  let c0_i32_2677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2676 : BitVec 32 := 1#32
  let v2528 : BitVec 32 := Scalar.muli v44 c1_i32_2676
  let v2529 : BitVec 32 := Scalar.addi c0_i32_2677 v2528
  v2529.toNat
def k0_dev118 (d0 : Dev nD) : Nat :=
  let c0_i32_2699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2698 : BitVec 32 := 1#32
  let v2544 : BitVec 32 := Scalar.muli v29 c1_i32_2698
  let v2545 : BitVec 32 := Scalar.addi c0_i32_2699 v2544
  v2545.toNat
def k0_dev119 (d0 : Dev nD) : Nat :=
  let c0_i32_2769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2768 : BitVec 32 := 1#32
  let v2636 : BitVec 32 := Scalar.muli v44 c1_i32_2768
  let v2637 : BitVec 32 := Scalar.addi c0_i32_2769 v2636
  v2637.toNat
def k0_dev120 (d0 : Dev nD) : Nat :=
  let c0_i32_2781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2780 : BitVec 32 := 1#32
  let v2646 : BitVec 32 := Scalar.muli v29 c1_i32_2780
  let v2647 : BitVec 32 := Scalar.addi c0_i32_2781 v2646
  v2647.toNat
def k0_dev121 (d0 : Dev nD) : Nat :=
  let c0_i32_2793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2792 : BitVec 32 := 1#32
  let v2656 : BitVec 32 := Scalar.muli v29 c1_i32_2792
  let v2657 : BitVec 32 := Scalar.addi c0_i32_2793 v2656
  v2657.toNat
def k0_dev122 (d0 : Dev nD) : Nat :=
  let c0_i32_2805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2804 : BitVec 32 := 1#32
  let v2666 : BitVec 32 := Scalar.muli v44 c1_i32_2804
  let v2667 : BitVec 32 := Scalar.addi c0_i32_2805 v2666
  v2667.toNat
def k0_dev123 (d0 : Dev nD) : Nat :=
  let c0_i32_2821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2820 : BitVec 32 := 1#32
  let v2682 : BitVec 32 := Scalar.muli v29 c1_i32_2820
  let v2683 : BitVec 32 := Scalar.addi c0_i32_2821 v2682
  v2683.toNat
def k0_dev124 (d0 : Dev nD) : Nat :=
  let c0_i32_2843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2842 : BitVec 32 := 1#32
  let v2698 : BitVec 32 := Scalar.muli v44 c1_i32_2842
  let v2699 : BitVec 32 := Scalar.addi c0_i32_2843 v2698
  v2699.toNat
def k0_dev125 (d0 : Dev nD) : Nat :=
  let c0_i32_2865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2864 : BitVec 32 := 1#32
  let v2714 : BitVec 32 := Scalar.muli v44 c1_i32_2864
  let v2715 : BitVec 32 := Scalar.addi c0_i32_2865 v2714
  v2715.toNat
def k0_dev126 (d0 : Dev nD) : Nat :=
  let c0_i32_2887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2886 : BitVec 32 := 1#32
  let v2730 : BitVec 32 := Scalar.muli v29 c1_i32_2886
  let v2731 : BitVec 32 := Scalar.addi c0_i32_2887 v2730
  v2731.toNat
def k0_dev127 (d0 : Dev nD) : Nat :=
  let c0_i32_2957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2956 : BitVec 32 := 1#32
  let v2822 : BitVec 32 := Scalar.muli v44 c1_i32_2956
  let v2823 : BitVec 32 := Scalar.addi c0_i32_2957 v2822
  v2823.toNat
def k0_dev128 (d0 : Dev nD) : Nat :=
  let c0_i32_2969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2968 : BitVec 32 := 1#32
  let v2832 : BitVec 32 := Scalar.muli v29 c1_i32_2968
  let v2833 : BitVec 32 := Scalar.addi c0_i32_2969 v2832
  v2833.toNat
def k0_dev129 (d0 : Dev nD) : Nat :=
  let c0_i32_2981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_2980 : BitVec 32 := 1#32
  let v2842 : BitVec 32 := Scalar.muli v29 c1_i32_2980
  let v2843 : BitVec 32 := Scalar.addi c0_i32_2981 v2842
  v2843.toNat
def k0_dev130 (d0 : Dev nD) : Nat :=
  let c0_i32_2993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_2992 : BitVec 32 := 1#32
  let v2852 : BitVec 32 := Scalar.muli v44 c1_i32_2992
  let v2853 : BitVec 32 := Scalar.addi c0_i32_2993 v2852
  v2853.toNat
def k0_dev131 (d0 : Dev nD) : Nat :=
  let c0_i32_3009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3008 : BitVec 32 := 1#32
  let v2868 : BitVec 32 := Scalar.muli v29 c1_i32_3008
  let v2869 : BitVec 32 := Scalar.addi c0_i32_3009 v2868
  v2869.toNat
def k0_dev132 (d0 : Dev nD) : Nat :=
  let c0_i32_3031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3030 : BitVec 32 := 1#32
  let v2884 : BitVec 32 := Scalar.muli v44 c1_i32_3030
  let v2885 : BitVec 32 := Scalar.addi c0_i32_3031 v2884
  v2885.toNat
def k0_dev133 (d0 : Dev nD) : Nat :=
  let c0_i32_3053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3052 : BitVec 32 := 1#32
  let v2900 : BitVec 32 := Scalar.muli v44 c1_i32_3052
  let v2901 : BitVec 32 := Scalar.addi c0_i32_3053 v2900
  v2901.toNat
def k0_dev134 (d0 : Dev nD) : Nat :=
  let c0_i32_3075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3074 : BitVec 32 := 1#32
  let v2916 : BitVec 32 := Scalar.muli v29 c1_i32_3074
  let v2917 : BitVec 32 := Scalar.addi c0_i32_3075 v2916
  v2917.toNat
def k0_dev135 (d0 : Dev nD) : Nat :=
  let c0_i32_3093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3092 : BitVec 32 := 1#32
  let v2926 : BitVec 32 := Scalar.muli v44 c1_i32_3092
  let v2927 : BitVec 32 := Scalar.addi c0_i32_3093 v2926
  v2927.toNat
def k0_dev136 (d0 : Dev nD) : Nat :=
  let c0_i32_3105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3104 : BitVec 32 := 1#32
  let v2936 : BitVec 32 := Scalar.muli v29 c1_i32_3104
  let v2937 : BitVec 32 := Scalar.addi c0_i32_3105 v2936
  v2937.toNat
def k0_dev137 (d0 : Dev nD) : Nat :=
  let c0_i32_3117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3116 : BitVec 32 := 1#32
  let v2946 : BitVec 32 := Scalar.muli v29 c1_i32_3116
  let v2947 : BitVec 32 := Scalar.addi c0_i32_3117 v2946
  v2947.toNat
def k0_dev138 (d0 : Dev nD) : Nat :=
  let c0_i32_3129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3128 : BitVec 32 := 1#32
  let v2956 : BitVec 32 := Scalar.muli v44 c1_i32_3128
  let v2957 : BitVec 32 := Scalar.addi c0_i32_3129 v2956
  v2957.toNat
def k0_dev139 (d0 : Dev nD) : Nat :=
  let c0_i32_3177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3176 : BitVec 32 := 1#32
  let v3008 : BitVec 32 := Scalar.muli v29 c1_i32_3176
  let v3009 : BitVec 32 := Scalar.addi c0_i32_3177 v3008
  v3009.toNat
def k0_dev140 (d0 : Dev nD) : Nat :=
  let c0_i32_3199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3198 : BitVec 32 := 1#32
  let v3024 : BitVec 32 := Scalar.muli v44 c1_i32_3198
  let v3025 : BitVec 32 := Scalar.addi c0_i32_3199 v3024
  v3025.toNat
def k0_dev141 (d0 : Dev nD) : Nat :=
  let c0_i32_3221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3220 : BitVec 32 := 1#32
  let v3040 : BitVec 32 := Scalar.muli v44 c1_i32_3220
  let v3041 : BitVec 32 := Scalar.addi c0_i32_3221 v3040
  v3041.toNat
def k0_dev142 (d0 : Dev nD) : Nat :=
  let c0_i32_3243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3242 : BitVec 32 := 1#32
  let v3056 : BitVec 32 := Scalar.muli v29 c1_i32_3242
  let v3057 : BitVec 32 := Scalar.addi c0_i32_3243 v3056
  v3057.toNat
def k0_dev143 (d0 : Dev nD) : Nat :=
  let c0_i32_3261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3260 : BitVec 32 := 1#32
  let v3066 : BitVec 32 := Scalar.muli v44 c1_i32_3260
  let v3067 : BitVec 32 := Scalar.addi c0_i32_3261 v3066
  v3067.toNat
def k0_dev144 (d0 : Dev nD) : Nat :=
  let c0_i32_3273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3272 : BitVec 32 := 1#32
  let v3076 : BitVec 32 := Scalar.muli v29 c1_i32_3272
  let v3077 : BitVec 32 := Scalar.addi c0_i32_3273 v3076
  v3077.toNat
def k0_dev145 (d0 : Dev nD) : Nat :=
  let c0_i32_3285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3284 : BitVec 32 := 1#32
  let v3086 : BitVec 32 := Scalar.muli v29 c1_i32_3284
  let v3087 : BitVec 32 := Scalar.addi c0_i32_3285 v3086
  v3087.toNat
def k0_dev146 (d0 : Dev nD) : Nat :=
  let c0_i32_3297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3296 : BitVec 32 := 1#32
  let v3096 : BitVec 32 := Scalar.muli v44 c1_i32_3296
  let v3097 : BitVec 32 := Scalar.addi c0_i32_3297 v3096
  v3097.toNat
def k0_dev147 (d0 : Dev nD) : Nat :=
  let c0_i32_3345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3344 : BitVec 32 := 1#32
  let v3148 : BitVec 32 := Scalar.muli v29 c1_i32_3344
  let v3149 : BitVec 32 := Scalar.addi c0_i32_3345 v3148
  v3149.toNat
def k0_dev148 (d0 : Dev nD) : Nat :=
  let c0_i32_3367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3366 : BitVec 32 := 1#32
  let v3164 : BitVec 32 := Scalar.muli v44 c1_i32_3366
  let v3165 : BitVec 32 := Scalar.addi c0_i32_3367 v3164
  v3165.toNat
def k0_dev149 (d0 : Dev nD) : Nat :=
  let c0_i32_3389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3388 : BitVec 32 := 1#32
  let v3180 : BitVec 32 := Scalar.muli v44 c1_i32_3388
  let v3181 : BitVec 32 := Scalar.addi c0_i32_3389 v3180
  v3181.toNat
def k0_dev150 (d0 : Dev nD) : Nat :=
  let c0_i32_3411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3410 : BitVec 32 := 1#32
  let v3196 : BitVec 32 := Scalar.muli v29 c1_i32_3410
  let v3197 : BitVec 32 := Scalar.addi c0_i32_3411 v3196
  v3197.toNat
def k0_dev151 (d0 : Dev nD) : Nat :=
  let c0_i32_3429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3428 : BitVec 32 := 1#32
  let v3206 : BitVec 32 := Scalar.muli v44 c1_i32_3428
  let v3207 : BitVec 32 := Scalar.addi c0_i32_3429 v3206
  v3207.toNat
def k0_dev152 (d0 : Dev nD) : Nat :=
  let c0_i32_3441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3440 : BitVec 32 := 1#32
  let v3216 : BitVec 32 := Scalar.muli v29 c1_i32_3440
  let v3217 : BitVec 32 := Scalar.addi c0_i32_3441 v3216
  v3217.toNat
def k0_dev153 (d0 : Dev nD) : Nat :=
  let c0_i32_3453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3452 : BitVec 32 := 1#32
  let v3226 : BitVec 32 := Scalar.muli v29 c1_i32_3452
  let v3227 : BitVec 32 := Scalar.addi c0_i32_3453 v3226
  v3227.toNat
def k0_dev154 (d0 : Dev nD) : Nat :=
  let c0_i32_3465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3464 : BitVec 32 := 1#32
  let v3236 : BitVec 32 := Scalar.muli v44 c1_i32_3464
  let v3237 : BitVec 32 := Scalar.addi c0_i32_3465 v3236
  v3237.toNat
def k0_dev155 (d0 : Dev nD) : Nat :=
  let c0_i32_3513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3512 : BitVec 32 := 1#32
  let v3288 : BitVec 32 := Scalar.muli v29 c1_i32_3512
  let v3289 : BitVec 32 := Scalar.addi c0_i32_3513 v3288
  v3289.toNat
def k0_dev156 (d0 : Dev nD) : Nat :=
  let c0_i32_3535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3534 : BitVec 32 := 1#32
  let v3304 : BitVec 32 := Scalar.muli v44 c1_i32_3534
  let v3305 : BitVec 32 := Scalar.addi c0_i32_3535 v3304
  v3305.toNat
def k0_dev157 (d0 : Dev nD) : Nat :=
  let c0_i32_3557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3556 : BitVec 32 := 1#32
  let v3320 : BitVec 32 := Scalar.muli v44 c1_i32_3556
  let v3321 : BitVec 32 := Scalar.addi c0_i32_3557 v3320
  v3321.toNat
def k0_dev158 (d0 : Dev nD) : Nat :=
  let c0_i32_3579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3578 : BitVec 32 := 1#32
  let v3336 : BitVec 32 := Scalar.muli v29 c1_i32_3578
  let v3337 : BitVec 32 := Scalar.addi c0_i32_3579 v3336
  v3337.toNat
def k0_dev159 (d0 : Dev nD) : Nat :=
  let c0_i32_3597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3596 : BitVec 32 := 1#32
  let v3346 : BitVec 32 := Scalar.muli v44 c1_i32_3596
  let v3347 : BitVec 32 := Scalar.addi c0_i32_3597 v3346
  v3347.toNat
def k0_dev160 (d0 : Dev nD) : Nat :=
  let c0_i32_3609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3608 : BitVec 32 := 1#32
  let v3356 : BitVec 32 := Scalar.muli v29 c1_i32_3608
  let v3357 : BitVec 32 := Scalar.addi c0_i32_3609 v3356
  v3357.toNat
def k0_dev161 (d0 : Dev nD) : Nat :=
  let c0_i32_3621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3620 : BitVec 32 := 1#32
  let v3366 : BitVec 32 := Scalar.muli v29 c1_i32_3620
  let v3367 : BitVec 32 := Scalar.addi c0_i32_3621 v3366
  v3367.toNat
def k0_dev162 (d0 : Dev nD) : Nat :=
  let c0_i32_3633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3632 : BitVec 32 := 1#32
  let v3376 : BitVec 32 := Scalar.muli v44 c1_i32_3632
  let v3377 : BitVec 32 := Scalar.addi c0_i32_3633 v3376
  v3377.toNat
def k0_dev163 (d0 : Dev nD) : Nat :=
  let c0_i32_3681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3680 : BitVec 32 := 1#32
  let v3428 : BitVec 32 := Scalar.muli v29 c1_i32_3680
  let v3429 : BitVec 32 := Scalar.addi c0_i32_3681 v3428
  v3429.toNat
def k0_dev164 (d0 : Dev nD) : Nat :=
  let c0_i32_3703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3702 : BitVec 32 := 1#32
  let v3444 : BitVec 32 := Scalar.muli v44 c1_i32_3702
  let v3445 : BitVec 32 := Scalar.addi c0_i32_3703 v3444
  v3445.toNat
def k0_dev165 (d0 : Dev nD) : Nat :=
  let c0_i32_3725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3724 : BitVec 32 := 1#32
  let v3460 : BitVec 32 := Scalar.muli v44 c1_i32_3724
  let v3461 : BitVec 32 := Scalar.addi c0_i32_3725 v3460
  v3461.toNat
def k0_dev166 (d0 : Dev nD) : Nat :=
  let c0_i32_3747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3746 : BitVec 32 := 1#32
  let v3476 : BitVec 32 := Scalar.muli v29 c1_i32_3746
  let v3477 : BitVec 32 := Scalar.addi c0_i32_3747 v3476
  v3477.toNat
def k0_dev167 (d0 : Dev nD) : Nat :=
  let c0_i32_3765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3764 : BitVec 32 := 1#32
  let v3486 : BitVec 32 := Scalar.muli v44 c1_i32_3764
  let v3487 : BitVec 32 := Scalar.addi c0_i32_3765 v3486
  v3487.toNat
def k0_dev168 (d0 : Dev nD) : Nat :=
  let c0_i32_3777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3776 : BitVec 32 := 1#32
  let v3496 : BitVec 32 := Scalar.muli v29 c1_i32_3776
  let v3497 : BitVec 32 := Scalar.addi c0_i32_3777 v3496
  v3497.toNat
def k0_dev169 (d0 : Dev nD) : Nat :=
  let c0_i32_3789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3788 : BitVec 32 := 1#32
  let v3506 : BitVec 32 := Scalar.muli v29 c1_i32_3788
  let v3507 : BitVec 32 := Scalar.addi c0_i32_3789 v3506
  v3507.toNat
def k0_dev170 (d0 : Dev nD) : Nat :=
  let c0_i32_3801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3800 : BitVec 32 := 1#32
  let v3516 : BitVec 32 := Scalar.muli v44 c1_i32_3800
  let v3517 : BitVec 32 := Scalar.addi c0_i32_3801 v3516
  v3517.toNat
def k0_dev171 (d0 : Dev nD) : Nat :=
  let c0_i32_3849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3848 : BitVec 32 := 1#32
  let v3568 : BitVec 32 := Scalar.muli v29 c1_i32_3848
  let v3569 : BitVec 32 := Scalar.addi c0_i32_3849 v3568
  v3569.toNat
def k0_dev172 (d0 : Dev nD) : Nat :=
  let c0_i32_3871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3870 : BitVec 32 := 1#32
  let v3584 : BitVec 32 := Scalar.muli v44 c1_i32_3870
  let v3585 : BitVec 32 := Scalar.addi c0_i32_3871 v3584
  v3585.toNat
def k0_dev173 (d0 : Dev nD) : Nat :=
  let c0_i32_3893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3892 : BitVec 32 := 1#32
  let v3600 : BitVec 32 := Scalar.muli v44 c1_i32_3892
  let v3601 : BitVec 32 := Scalar.addi c0_i32_3893 v3600
  v3601.toNat
def k0_dev174 (d0 : Dev nD) : Nat :=
  let c0_i32_3915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3914 : BitVec 32 := 1#32
  let v3616 : BitVec 32 := Scalar.muli v29 c1_i32_3914
  let v3617 : BitVec 32 := Scalar.addi c0_i32_3915 v3616
  v3617.toNat
def k0_dev175 (d0 : Dev nD) : Nat :=
  let c0_i32_3933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3932 : BitVec 32 := 1#32
  let v3626 : BitVec 32 := Scalar.muli v44 c1_i32_3932
  let v3627 : BitVec 32 := Scalar.addi c0_i32_3933 v3626
  v3627.toNat
def k0_dev176 (d0 : Dev nD) : Nat :=
  let c0_i32_3945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3944 : BitVec 32 := 1#32
  let v3636 : BitVec 32 := Scalar.muli v29 c1_i32_3944
  let v3637 : BitVec 32 := Scalar.addi c0_i32_3945 v3636
  v3637.toNat
def k0_dev177 (d0 : Dev nD) : Nat :=
  let c0_i32_3957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_3956 : BitVec 32 := 1#32
  let v3646 : BitVec 32 := Scalar.muli v29 c1_i32_3956
  let v3647 : BitVec 32 := Scalar.addi c0_i32_3957 v3646
  v3647.toNat
def k0_dev178 (d0 : Dev nD) : Nat :=
  let c0_i32_3969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_3968 : BitVec 32 := 1#32
  let v3656 : BitVec 32 := Scalar.muli v44 c1_i32_3968
  let v3657 : BitVec 32 := Scalar.addi c0_i32_3969 v3656
  v3657.toNat
def k0_dev179 (d0 : Dev nD) : Nat :=
  let c0_i32_4017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4016 : BitVec 32 := 1#32
  let v3708 : BitVec 32 := Scalar.muli v29 c1_i32_4016
  let v3709 : BitVec 32 := Scalar.addi c0_i32_4017 v3708
  v3709.toNat
def k0_dev180 (d0 : Dev nD) : Nat :=
  let c0_i32_4039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4038 : BitVec 32 := 1#32
  let v3724 : BitVec 32 := Scalar.muli v44 c1_i32_4038
  let v3725 : BitVec 32 := Scalar.addi c0_i32_4039 v3724
  v3725.toNat
def k0_dev181 (d0 : Dev nD) : Nat :=
  let c0_i32_4061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4060 : BitVec 32 := 1#32
  let v3740 : BitVec 32 := Scalar.muli v44 c1_i32_4060
  let v3741 : BitVec 32 := Scalar.addi c0_i32_4061 v3740
  v3741.toNat
def k0_dev182 (d0 : Dev nD) : Nat :=
  let c0_i32_4083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4082 : BitVec 32 := 1#32
  let v3756 : BitVec 32 := Scalar.muli v29 c1_i32_4082
  let v3757 : BitVec 32 := Scalar.addi c0_i32_4083 v3756
  v3757.toNat
def k0_dev183 (d0 : Dev nD) : Nat :=
  let c0_i32_4101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4100 : BitVec 32 := 1#32
  let v3766 : BitVec 32 := Scalar.muli v44 c1_i32_4100
  let v3767 : BitVec 32 := Scalar.addi c0_i32_4101 v3766
  v3767.toNat
def k0_dev184 (d0 : Dev nD) : Nat :=
  let c0_i32_4113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4112 : BitVec 32 := 1#32
  let v3776 : BitVec 32 := Scalar.muli v29 c1_i32_4112
  let v3777 : BitVec 32 := Scalar.addi c0_i32_4113 v3776
  v3777.toNat
def k0_dev185 (d0 : Dev nD) : Nat :=
  let c0_i32_4125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4124 : BitVec 32 := 1#32
  let v3786 : BitVec 32 := Scalar.muli v29 c1_i32_4124
  let v3787 : BitVec 32 := Scalar.addi c0_i32_4125 v3786
  v3787.toNat
def k0_dev186 (d0 : Dev nD) : Nat :=
  let c0_i32_4137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4136 : BitVec 32 := 1#32
  let v3796 : BitVec 32 := Scalar.muli v44 c1_i32_4136
  let v3797 : BitVec 32 := Scalar.addi c0_i32_4137 v3796
  v3797.toNat
def k0_dev187 (d0 : Dev nD) : Nat :=
  let c0_i32_4185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4184 : BitVec 32 := 1#32
  let v3848 : BitVec 32 := Scalar.muli v29 c1_i32_4184
  let v3849 : BitVec 32 := Scalar.addi c0_i32_4185 v3848
  v3849.toNat
def k0_dev188 (d0 : Dev nD) : Nat :=
  let c0_i32_4207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4206 : BitVec 32 := 1#32
  let v3864 : BitVec 32 := Scalar.muli v44 c1_i32_4206
  let v3865 : BitVec 32 := Scalar.addi c0_i32_4207 v3864
  v3865.toNat
def k0_dev189 (d0 : Dev nD) : Nat :=
  let c0_i32_4229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4228 : BitVec 32 := 1#32
  let v3880 : BitVec 32 := Scalar.muli v44 c1_i32_4228
  let v3881 : BitVec 32 := Scalar.addi c0_i32_4229 v3880
  v3881.toNat
def k0_dev190 (d0 : Dev nD) : Nat :=
  let c0_i32_4251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4250 : BitVec 32 := 1#32
  let v3896 : BitVec 32 := Scalar.muli v29 c1_i32_4250
  let v3897 : BitVec 32 := Scalar.addi c0_i32_4251 v3896
  v3897.toNat
def k0_dev191 (d0 : Dev nD) : Nat :=
  let c0_i32_4269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4268 : BitVec 32 := 1#32
  let v3906 : BitVec 32 := Scalar.muli v44 c1_i32_4268
  let v3907 : BitVec 32 := Scalar.addi c0_i32_4269 v3906
  v3907.toNat
def k0_dev192 (d0 : Dev nD) : Nat :=
  let c0_i32_4281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4280 : BitVec 32 := 1#32
  let v3916 : BitVec 32 := Scalar.muli v29 c1_i32_4280
  let v3917 : BitVec 32 := Scalar.addi c0_i32_4281 v3916
  v3917.toNat
def k0_dev193 (d0 : Dev nD) : Nat :=
  let c0_i32_4293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4292 : BitVec 32 := 1#32
  let v3926 : BitVec 32 := Scalar.muli v29 c1_i32_4292
  let v3927 : BitVec 32 := Scalar.addi c0_i32_4293 v3926
  v3927.toNat
def k0_dev194 (d0 : Dev nD) : Nat :=
  let c0_i32_4305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4304 : BitVec 32 := 1#32
  let v3936 : BitVec 32 := Scalar.muli v44 c1_i32_4304
  let v3937 : BitVec 32 := Scalar.addi c0_i32_4305 v3936
  v3937.toNat
def k0_dev195 (d0 : Dev nD) : Nat :=
  let c0_i32_4353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4352 : BitVec 32 := 1#32
  let v3988 : BitVec 32 := Scalar.muli v29 c1_i32_4352
  let v3989 : BitVec 32 := Scalar.addi c0_i32_4353 v3988
  v3989.toNat
def k0_dev196 (d0 : Dev nD) : Nat :=
  let c0_i32_4375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4374 : BitVec 32 := 1#32
  let v4004 : BitVec 32 := Scalar.muli v44 c1_i32_4374
  let v4005 : BitVec 32 := Scalar.addi c0_i32_4375 v4004
  v4005.toNat
def k0_dev197 (d0 : Dev nD) : Nat :=
  let c0_i32_4397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4396 : BitVec 32 := 1#32
  let v4020 : BitVec 32 := Scalar.muli v44 c1_i32_4396
  let v4021 : BitVec 32 := Scalar.addi c0_i32_4397 v4020
  v4021.toNat
def k0_dev198 (d0 : Dev nD) : Nat :=
  let c0_i32_4419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4418 : BitVec 32 := 1#32
  let v4036 : BitVec 32 := Scalar.muli v29 c1_i32_4418
  let v4037 : BitVec 32 := Scalar.addi c0_i32_4419 v4036
  v4037.toNat
def k0_dev199 (d0 : Dev nD) : Nat :=
  let c0_i32_4437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4436 : BitVec 32 := 1#32
  let v4046 : BitVec 32 := Scalar.muli v44 c1_i32_4436
  let v4047 : BitVec 32 := Scalar.addi c0_i32_4437 v4046
  v4047.toNat
def k0_dev200 (d0 : Dev nD) : Nat :=
  let c0_i32_4449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4448 : BitVec 32 := 1#32
  let v4056 : BitVec 32 := Scalar.muli v29 c1_i32_4448
  let v4057 : BitVec 32 := Scalar.addi c0_i32_4449 v4056
  v4057.toNat
def k0_dev201 (d0 : Dev nD) : Nat :=
  let c0_i32_4461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4460 : BitVec 32 := 1#32
  let v4066 : BitVec 32 := Scalar.muli v29 c1_i32_4460
  let v4067 : BitVec 32 := Scalar.addi c0_i32_4461 v4066
  v4067.toNat
def k0_dev202 (d0 : Dev nD) : Nat :=
  let c0_i32_4473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4472 : BitVec 32 := 1#32
  let v4076 : BitVec 32 := Scalar.muli v44 c1_i32_4472
  let v4077 : BitVec 32 := Scalar.addi c0_i32_4473 v4076
  v4077.toNat
def k0_dev203 (d0 : Dev nD) : Nat :=
  let c0_i32_4521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4520 : BitVec 32 := 1#32
  let v4128 : BitVec 32 := Scalar.muli v29 c1_i32_4520
  let v4129 : BitVec 32 := Scalar.addi c0_i32_4521 v4128
  v4129.toNat
def k0_dev204 (d0 : Dev nD) : Nat :=
  let c0_i32_4543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4542 : BitVec 32 := 1#32
  let v4144 : BitVec 32 := Scalar.muli v44 c1_i32_4542
  let v4145 : BitVec 32 := Scalar.addi c0_i32_4543 v4144
  v4145.toNat
def k0_dev205 (d0 : Dev nD) : Nat :=
  let c0_i32_4565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4564 : BitVec 32 := 1#32
  let v4160 : BitVec 32 := Scalar.muli v44 c1_i32_4564
  let v4161 : BitVec 32 := Scalar.addi c0_i32_4565 v4160
  v4161.toNat
def k0_dev206 (d0 : Dev nD) : Nat :=
  let c0_i32_4587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4586 : BitVec 32 := 1#32
  let v4176 : BitVec 32 := Scalar.muli v29 c1_i32_4586
  let v4177 : BitVec 32 := Scalar.addi c0_i32_4587 v4176
  v4177.toNat
def k0_dev207 (d0 : Dev nD) : Nat :=
  let c0_i32_4605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4604 : BitVec 32 := 1#32
  let v4186 : BitVec 32 := Scalar.muli v44 c1_i32_4604
  let v4187 : BitVec 32 := Scalar.addi c0_i32_4605 v4186
  v4187.toNat
def k0_dev208 (d0 : Dev nD) : Nat :=
  let c0_i32_4617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4616 : BitVec 32 := 1#32
  let v4196 : BitVec 32 := Scalar.muli v29 c1_i32_4616
  let v4197 : BitVec 32 := Scalar.addi c0_i32_4617 v4196
  v4197.toNat
def k0_dev209 (d0 : Dev nD) : Nat :=
  let c0_i32_4629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4628 : BitVec 32 := 1#32
  let v4206 : BitVec 32 := Scalar.muli v29 c1_i32_4628
  let v4207 : BitVec 32 := Scalar.addi c0_i32_4629 v4206
  v4207.toNat
def k0_dev210 (d0 : Dev nD) : Nat :=
  let c0_i32_4641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4640 : BitVec 32 := 1#32
  let v4216 : BitVec 32 := Scalar.muli v44 c1_i32_4640
  let v4217 : BitVec 32 := Scalar.addi c0_i32_4641 v4216
  v4217.toNat
def k0_dev211 (d0 : Dev nD) : Nat :=
  let c0_i32_4689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4688 : BitVec 32 := 1#32
  let v4268 : BitVec 32 := Scalar.muli v29 c1_i32_4688
  let v4269 : BitVec 32 := Scalar.addi c0_i32_4689 v4268
  v4269.toNat
def k0_dev212 (d0 : Dev nD) : Nat :=
  let c0_i32_4711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4710 : BitVec 32 := 1#32
  let v4284 : BitVec 32 := Scalar.muli v44 c1_i32_4710
  let v4285 : BitVec 32 := Scalar.addi c0_i32_4711 v4284
  v4285.toNat
def k0_dev213 (d0 : Dev nD) : Nat :=
  let c0_i32_4767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4766 : BitVec 32 := 1#32
  let v4322 : BitVec 32 := Scalar.muli v44 c1_i32_4766
  let v4323 : BitVec 32 := Scalar.addi c0_i32_4767 v4322
  v4323.toNat
def k0_dev214 (d0 : Dev nD) : Nat :=
  let c0_i32_4779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4778 : BitVec 32 := 1#32
  let v4332 : BitVec 32 := Scalar.muli v29 c1_i32_4778
  let v4333 : BitVec 32 := Scalar.addi c0_i32_4779 v4332
  v4333.toNat
def k0_dev215 (d0 : Dev nD) : Nat :=
  let c0_i32_4791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4790 : BitVec 32 := 1#32
  let v4342 : BitVec 32 := Scalar.muli v29 c1_i32_4790
  let v4343 : BitVec 32 := Scalar.addi c0_i32_4791 v4342
  v4343.toNat
def k0_dev216 (d0 : Dev nD) : Nat :=
  let c0_i32_4803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4802 : BitVec 32 := 1#32
  let v4352 : BitVec 32 := Scalar.muli v44 c1_i32_4802
  let v4353 : BitVec 32 := Scalar.addi c0_i32_4803 v4352
  v4353.toNat
def k0_dev217 (d0 : Dev nD) : Nat :=
  let c0_i32_4851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4850 : BitVec 32 := 1#32
  let v4404 : BitVec 32 := Scalar.muli v29 c1_i32_4850
  let v4405 : BitVec 32 := Scalar.addi c0_i32_4851 v4404
  v4405.toNat
def k0_dev218 (d0 : Dev nD) : Nat :=
  let c0_i32_4873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4872 : BitVec 32 := 1#32
  let v4420 : BitVec 32 := Scalar.muli v44 c1_i32_4872
  let v4421 : BitVec 32 := Scalar.addi c0_i32_4873 v4420
  v4421.toNat
def k0_dev219 (d0 : Dev nD) : Nat :=
  let c0_i32_4929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4928 : BitVec 32 := 1#32
  let v4458 : BitVec 32 := Scalar.muli v44 c1_i32_4928
  let v4459 : BitVec 32 := Scalar.addi c0_i32_4929 v4458
  v4459.toNat
def k0_dev220 (d0 : Dev nD) : Nat :=
  let c0_i32_4941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4940 : BitVec 32 := 1#32
  let v4468 : BitVec 32 := Scalar.muli v29 c1_i32_4940
  let v4469 : BitVec 32 := Scalar.addi c0_i32_4941 v4468
  v4469.toNat
def k0_dev221 (d0 : Dev nD) : Nat :=
  let c0_i32_4953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_4952 : BitVec 32 := 1#32
  let v4478 : BitVec 32 := Scalar.muli v29 c1_i32_4952
  let v4479 : BitVec 32 := Scalar.addi c0_i32_4953 v4478
  v4479.toNat
def k0_dev222 (d0 : Dev nD) : Nat :=
  let c0_i32_4965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_4964 : BitVec 32 := 1#32
  let v4488 : BitVec 32 := Scalar.muli v44 c1_i32_4964
  let v4489 : BitVec 32 := Scalar.addi c0_i32_4965 v4488
  v4489.toNat
def k0_dev223 (d0 : Dev nD) : Nat :=
  let c0_i32_5085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_5084 : BitVec 32 := 1#32
  let v4590 : BitVec 32 := Scalar.muli v44 c1_i32_5084
  let v4591 : BitVec 32 := Scalar.addi c0_i32_5085 v4590
  v4591.toNat
def k0_dev224 (d0 : Dev nD) : Nat :=
  let c0_i32_5097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_5096 : BitVec 32 := 1#32
  let v4600 : BitVec 32 := Scalar.muli v29 c1_i32_5096
  let v4601 : BitVec 32 := Scalar.addi c0_i32_5097 v4600
  v4601.toNat
def k0_dev225 (d0 : Dev nD) : Nat :=
  let c0_i32_5217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_10 : BitVec 32 := 1#32
  let v30 : BitVec 32 := Scalar.addi v13 c1_i32_10
  let c16_i32_11 : BitVec 32 := 16#32
  let v31 : BitVec 32 := Scalar.remsi v30 c16_i32_11
  let c4_i32_12 : BitVec 32 := 4#32
  let v32 : BitVec 1 := Scalar.cmpi .slt v31 c4_i32_12
  let c4_i32_13 : BitVec 32 := 4#32
  let v33 : BitVec 32 := Scalar.muli c4_i32_13 v31
  let c8_i32_14 : BitVec 32 := 8#32
  let v34 : BitVec 1 := Scalar.cmpi .slt v31 c8_i32_14
  let c31_i32_16 : BitVec 32 := 31#32
  let c4_i32_15 : BitVec 32 := 4#32
  let v35 : BitVec 32 := Scalar.muli c4_i32_15 v31
  let v36 : BitVec 32 := Scalar.subi c31_i32_16 v35
  let c12_i32_17 : BitVec 32 := 12#32
  let v37 : BitVec 1 := Scalar.cmpi .slt v31 c12_i32_17
  let c4_i32_18 : BitVec 32 := 4#32
  let v38 : BitVec 32 := Scalar.muli c4_i32_18 v31
  let c30_i32_19 : BitVec 32 := 30#32
  let v39 : BitVec 32 := Scalar.subi v38 c30_i32_19
  let c61_i32_21 : BitVec 32 := 61#32
  let c4_i32_20 : BitVec 32 := 4#32
  let v40 : BitVec 32 := Scalar.muli c4_i32_20 v31
  let v41 : BitVec 32 := Scalar.subi c61_i32_21 v40
  let v42 : BitVec 32 := Scalar.select v37 v39 v41
  let v43 : BitVec 32 := Scalar.select v34 v36 v42
  let v44 : BitVec 32 := Scalar.select v32 v33 v43
  let c1_i32_5216 : BitVec 32 := 1#32
  let v4702 : BitVec 32 := Scalar.muli v44 c1_i32_5216
  let v4703 : BitVec 32 := Scalar.addi c0_i32_5217 v4702
  v4703.toNat
def k0_dev226 (d0 : Dev nD) : Nat :=
  let c0_i32_5229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c3_i32 : BitVec 32 := 3#32
  let v6 : BitVec 1 := Scalar.cmpi .eq v3 c3_i32
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c16_i32_1 : BitVec 32 := 16#32
  let v14 : BitVec 32 := Scalar.addi v13 c16_i32_1
  let c1_i32_2 : BitVec 32 := 1#32
  let v15 : BitVec 32 := Scalar.subi v14 c1_i32_2
  let c16_i32_3 : BitVec 32 := 16#32
  let v16 : BitVec 32 := Scalar.remsi v15 c16_i32_3
  let c4_i32_4 : BitVec 32 := 4#32
  let v17 : BitVec 1 := Scalar.cmpi .slt v16 c4_i32_4
  let c4_i32_5 : BitVec 32 := 4#32
  let v18 : BitVec 32 := Scalar.muli c4_i32_5 v16
  let c8_i32_6 : BitVec 32 := 8#32
  let v19 : BitVec 1 := Scalar.cmpi .slt v16 c8_i32_6
  let c31_i32 : BitVec 32 := 31#32
  let c4_i32_7 : BitVec 32 := 4#32
  let v20 : BitVec 32 := Scalar.muli c4_i32_7 v16
  let v21 : BitVec 32 := Scalar.subi c31_i32 v20
  let c12_i32 : BitVec 32 := 12#32
  let v22 : BitVec 1 := Scalar.cmpi .slt v16 c12_i32
  let c4_i32_8 : BitVec 32 := 4#32
  let v23 : BitVec 32 := Scalar.muli c4_i32_8 v16
  let c30_i32 : BitVec 32 := 30#32
  let v24 : BitVec 32 := Scalar.subi v23 c30_i32
  let c61_i32 : BitVec 32 := 61#32
  let c4_i32_9 : BitVec 32 := 4#32
  let v25 : BitVec 32 := Scalar.muli c4_i32_9 v16
  let v26 : BitVec 32 := Scalar.subi c61_i32 v25
  let v27 : BitVec 32 := Scalar.select v22 v24 v26
  let v28 : BitVec 32 := Scalar.select v19 v21 v27
  let v29 : BitVec 32 := Scalar.select v17 v18 v28
  let c1_i32_5228 : BitVec 32 := 1#32
  let v4712 : BitVec 32 := Scalar.muli v29 c1_i32_5228
  let v4713 : BitVec 32 := Scalar.addi c0_i32_5229 v4712
  v4713.toNat
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ops.lean ====
/-
# The kernel's body as a list of steps

The ring all-reduce runs the same program on each of the sixteen devices. This module names its steps (`Op`), says
what each does to the machine (`run`), lists them in the order in which the body performs them (`ops`), and shows that
the body is that list run from first to last (`body_eq`).
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

/-! ## The buffers and semaphores -/

/-- A device's block of `x`, its block of `w`, and the result, in its vector memory. -/
abbrev xM : Memref sig .tc .vmem S2048x128 .bf16 := Memref.whole cc0_stg0_0
abbrev wM : Memref sig .tc .vmem S128x2048 .bf16 := Memref.whole cc0_stg1_0
abbrev oM : Memref sig .tc .vmem S2048x2048 .f32 := Memref.whole cc0_stg2_0

/-- Lane `l`'s communication buffer, three slots deep. -/
def cRef : Fin 8 → Ref sig .tc
  | 0 => cc0_scratch0 | 1 => cc0_scratch1 | 2 => cc0_scratch2 | 3 => cc0_scratch3
  | 4 => cc0_scratch4 | 5 => cc0_scratch5 | 6 => cc0_scratch6 | 7 => cc0_scratch7
def cM : Fin 8 → Memref sig .tc .vmem S3x128x512 .bf16
  | 0 => Memref.whole cc0_scratch0 | 1 => Memref.whole cc0_scratch1 | 2 => Memref.whole cc0_scratch2
  | 3 => Memref.whole cc0_scratch3 | 4 => Memref.whole cc0_scratch4 | 5 => Memref.whole cc0_scratch5
  | 6 => Memref.whole cc0_scratch6 | 7 => Memref.whole cc0_scratch7
theorem cM_whole : ∀ l, (cM l).IsWhole
  | 0 => Memref.isWhole_whole _ | 1 => Memref.isWhole_whole _ | 2 => Memref.isWhole_whole _ | 3 => Memref.isWhole_whole _
  | 4 => Memref.isWhole_whole _ | 5 => Memref.isWhole_whole _ | 6 => Memref.isWhole_whole _ | 7 => Memref.isWhole_whole _

/-- Lane `l`'s semaphores: a send and a receive semaphore per slot, and the credits. -/
def sSem : Fin 8 → DmaSems sig S3
  | 0 => cc0_scratch8 | 1 => cc0_scratch9 | 2 => cc0_scratch10 | 3 => cc0_scratch11
  | 4 => cc0_scratch12 | 5 => cc0_scratch13 | 6 => cc0_scratch14 | 7 => cc0_scratch15
def rSem : Fin 8 → DmaSems sig S3
  | 0 => cc0_scratch16 | 1 => cc0_scratch17 | 2 => cc0_scratch18 | 3 => cc0_scratch19
  | 4 => cc0_scratch20 | 5 => cc0_scratch21 | 6 => cc0_scratch22 | 7 => cc0_scratch23
def kSem : Fin 8 → Sems sig S_
  | 0 => cc0_scratch24 | 1 => cc0_scratch25 | 2 => cc0_scratch26 | 3 => cc0_scratch27
  | 4 => cc0_scratch28 | 5 => cc0_scratch29 | 6 => cc0_scratch30 | 7 => cc0_scratch31

/-- Hop `k` sends out of slot `k` modulo three. -/
def sl (k : ℕ) : Fin 3 := ⟨k % 3, Nat.mod_lt _ (by decide)⟩

theorem slot_inb (s : Fin 3) : ∀ a, (![s.val, 0, 0] : Fin 3 → ℕ) a + S1x128x512.size a ≤ S3x128x512.size a := by
  revert s; decide
theorem ssem_inb (s : Fin 3) : ∀ a, (![s.val] : Fin 1 → ℕ) a + S1.size a ≤ S3.size a := by
  revert s; decide

/-- Slot `s` of a communication buffer, and of a semaphore array. -/
abbrev slR (s : Fin 3) : Rect S3x128x512 := Rect.unit (s := S3x128x512) ![s.val, 0, 0] S1x128x512.size (slot_inb s)
def slM (l : Fin 8) (s : Fin 3) : Memref sig .tc .vmem S128x512 .bf16 :=
  ((cM l).slice (slR s) (fun _ => rfl)).squeeze S128x512 squeezes_S1x128x512_S128x512
def at3 (a : DmaSems sig S3) (s : Fin 3) : DmaSem sig :=
  ((a.slice (Rect.unit (s := S3) ![s.val] S1.size (ssem_inb s))).squeeze S_ squeezes_S1_S_).sem

theorem slM_word (l : Fin 8) : ∀ s, (slM l s).view.WordExact
  | 0 => ((cM_whole l).wordExact_slice rfl _ wordsbf16_S3x128x512_S1x128x512_0_0_0).reshape _ _
  | 1 => ((cM_whole l).wordExact_slice rfl _ wordsbf16_S3x128x512_S1x128x512_1_0_0).reshape _ _
  | 2 => ((cM_whole l).wordExact_slice rfl _ wordsbf16_S3x128x512_S1x128x512_2_0_0).reshape _ _
theorem slM_stores (l : Fin 8) : ∀ s, ((cM l).access (slR s)).Stores Finset.univ
  | 0 => View.stores_vmem h_S1x128x512 ((cM_whole l).storeExact_slice rfl _ packedbf16_S3x128x512_S1x128x512_0_0_0) (fun _ => rfl)
  | 1 => View.stores_vmem h_S1x128x512 ((cM_whole l).storeExact_slice rfl _ packedbf16_S3x128x512_S1x128x512_1_0_0) (fun _ => rfl)
  | 2 => View.stores_vmem h_S1x128x512 ((cM_whole l).storeExact_slice rfl _ packedbf16_S3x128x512_S1x128x512_2_0_0) (fun _ => rfl)

/-- The runtime's barrier semaphore. -/
abbrev barS : Sem sig := (SemArray.scalar (sig.barrier 0 rfl) : Sems sig S_).sem

/-! ## The ring -/

/-- A device's position on the ring. -/
def pos (c : Dev nD) : ℕ :=
  if c.val % 4 = 0 then c.val / 4 else if c.val % 4 = 3 then 7 - c.val / 4
  else if c.val % 4 = 2 then 8 + c.val / 4 else 15 - c.val / 4

/-- The neighbours, as the kernel computes them. -/
def lft (c : Dev nD) : Dev nD := ⟨k0_dev1 c, k0_dev1_lt c⟩
def rgt (c : Dev nD) : Dev nD := ⟨k0_dev2 c, k0_dev2_lt c⟩

/-- The relative row block `o` (an offset of `o - 8` around the ring) seen from device `c`. -/
def row (c : Dev nD) (o : ℕ) : ℕ := (pos c + o + 8) % 16

theorem row_lt (c : Dev nD) (o : ℕ) : row c o < 16 := Nat.mod_lt _ (by decide)

/-- The word of the offset `o - 8`. -/
def offW (o : ℕ) : BitVec 32 := BitVec.ofNat 32 (o + 4294967288)

theorem off1_eq (c : Dev nD) (o : ℕ) (ho : o < 17) : k0_off1 c (offW o) = ![128 * row c o, 0] := by
  have h : ∀ c : Dev nD, ∀ o : Fin 17, k0_off1 c (offW o) = ![128 * row c o, 0] := by decide +kernel
  exact h c ⟨o, ho⟩
theorem off2_eq (c : Dev nD) (o : ℕ) (ho : o < 17) : k0_off2 c (offW o) = ![128 * row c o, 0] := by
  have h : ∀ c : Dev nD, ∀ o : Fin 17, k0_off2 c (offW o) = ![128 * row c o, 0] := by decide +kernel
  exact h c ⟨o, ho⟩

/-- The corner of a 128 by 512 block of the result: column block `j`, relative row block given by a word. -/
def offC : Fin 4 → Dev nD → BitVec 32 → Fin 2 → ℕ
  | 0 => k0_off3 | 1 => k0_off5 | 2 => k0_off4 | 3 => k0_off6

theorem offC_eq (j : Fin 4) (c : Dev nD) (o : ℕ) (ho : o < 17) : offC j c (offW o) = ![128 * row c o, 512 * j.val] := by
  have h : ∀ j : Fin 4, ∀ c : Dev nD, ∀ o : Fin 17, offC j c (offW o) = ![128 * row c o, 512 * j.val] := by decide +kernel
  exact h j c ⟨o, ho⟩

theorem off1_inb (c : Dev nD) (o : ℕ) (ho : o < 17) : ∀ a, k0_off1 c (offW o) a + S128x128.size a ≤ S2048x128.size a := by
  rw [off1_eq c o ho]; have := row_lt c o
  intro a; fin_cases a
  · show 128 * row c o + 128 ≤ 2048; omega
  · show 0 + 128 ≤ 128; omega
theorem off2_inb (c : Dev nD) (o : ℕ) (ho : o < 17) : ∀ a, k0_off2 c (offW o) a + S128x2048.size a ≤ S2048x2048.size a := by
  rw [off2_eq c o ho]; have := row_lt c o
  intro a; fin_cases a
  · show 128 * row c o + 128 ≤ 2048; omega
  · show 0 + 2048 ≤ 2048; omega
theorem offC_inb (j : Fin 4) (c : Dev nD) (o : ℕ) (ho : o < 17) : ∀ a, offC j c (offW o) a + S128x512.size a ≤ S2048x2048.size a := by
  rw [offC_eq j c o ho]; have := row_lt c o; have := j.isLt
  intro a; fin_cases a
  · show 128 * row c o + 128 ≤ 2048; omega
  · show 512 * j.val + 512 ≤ 2048; omega

/-! ## The lanes -/

/-- The lanes that send to the right, the lanes that send to the left. -/
def toR (l : Fin 8) : Bool := l.val < 4
/-- The lanes that run all fifteen hops beyond the first; the others stop two earlier. -/
def long (l : Fin 8) : Bool := l.val < 2 || 5 < l.val
def last (l : Fin 8) : ℕ := if long l then 15 else 13
def far (l : Fin 8) : ℕ := if long l then 8 else 7
/-- A lane's column block. -/
def col (l : Fin 8) : Fin 4 := ⟨l.val % 4, Nat.mod_lt _ (by decide)⟩

/-- The device a lane sends to, and the one it receives from. -/
def dst (l : Fin 8) (c : Dev nD) : Dev nD := if toR l then rgt c else lft c
def src (l : Fin 8) (c : Dev nD) : Dev nD := if toR l then lft c else rgt c

/-- The relative row block that a lane's first send carries, and the one at which its `k`-th hop arrives. -/
def seedO (l : Fin 8) : ℕ := if toR l then far l + 8 else 8 - far l
def hopO (l : Fin 8) (k : ℕ) : ℕ := if toR l then far l + 7 - k else k + 9 - far l

/-! ## The steps -/

/-- The steps of the body. -/
inductive Op
  /-- multiply row block `o` of `x` by `w` into the result -/
  | mm (o : ℕ)
  /-- signal a neighbour's barrier semaphore -/
  | sig (right : Bool)
  /-- wait for both neighbours' signals -/
  | bar
  /-- round a block of the result into slot 0 of a lane -/
  | seed (l : Fin 8)
  /-- wait for a credit of a lane -/
  | credit (l : Fin 8)
  /-- start a lane's hop -/
  | send (l : Fin 8) (k : ℕ)
  /-- wait until the hop has left -/
  | sent (l : Fin 8) (k : ℕ)
  /-- give the sender of the lane a credit -/
  | grant (l : Fin 8) (k : ℕ)
  /-- wait until the hop from the other neighbour has arrived -/
  | recv (l : Fin 8) (k : ℕ)
  /-- add this device's block to what arrived -/
  | add (l : Fin 8) (k : ℕ)
  /-- the two partial sums of a column block and this device's own block: apply the activation -/
  | comb (a b : Fin 8)
  /-- store what arrived into the result -/
  | store (l : Fin 8) (k : ℕ)
  deriving DecidableEq

abbrev PR (F : FTy → Type) : Type → Type 1 := Prog (TpuEff nD τ sig (Elt F) Λ₀ .tc)

/-- A row block of `x` times `w`. -/
def mmV (x : Vec F S128x128 .bf16) (w : Vec F S128x2048 .bf16) : FVec F S128x2048 .f32 := k0_pay1 x w
/-- A block of the result rounded for sending. -/
def seedV (y : Vec F S128x512 .f32) : FVec F S1x128x512 .bf16 := k0_pay8 y
/-- What arrived, plus a block of the result rounded. -/
def addV (z : Vec F S1x128x512 .bf16) (y : Vec F S128x512 .f32) : FVec F S1x128x512 .bf16 := k0_pay32 z y
/-- The activation of the sum of the two partial sums and the own block. -/
def actV (a b : Vec F S1x128x512 .bf16) (y : Vec F S128x512 .f32) : FVec F S128x512 .f32 := k0_pay108 a b y
/-- A finished block rounded for sending. -/
def packV (g : FVec F S128x512 .f32) : FVec F S1x128x512 .bf16 := k0_pay110 g
/-- What arrived, widened. -/
def wideV (z : Vec F S1x128x512 .bf16) : FVec F S128x512 .f32 := k0_pay150 z

/-- Load a slot; store a slot; load a block of the result; store one. -/
def ldC (l : Fin 8) (s : Fin 3) : PR F (Vec F S1x128x512 .bf16) :=
  Prog.lift (.load (cM l) (slR s).toLoadRect (View.loadsAt_vmem h_S1x128x512))
def stC (l : Fin 8) (s : Fin 3) (v : FVec F S1x128x512 .bf16) : PR F PUnit :=
  Prog.lift (.store (cM l) (slR s) v Finset.univ (slM_stores l s) (.inl rfl))
abbrev oR (j : Fin 4) (c : Dev nD) (o : ℕ) (ho : o < 17) : Rect S2048x2048 :=
  Rect.unit (s := S2048x2048) (offC j c (offW o)) S128x512.size (offC_inb j c o ho)
def ldO (j : Fin 4) (c : Dev nD) (o : ℕ) : PR F (Vec F S128x512 .f32) :=
  if ho : o < 17 then Prog.lift (.load oM (oR j c o ho).toLoadRect (View.loadsAt_vmem h_S128x512)) else pure (fun _ => Scalar.ofBits .f32 0#32)
def stO (j : Fin 4) (c : Dev nD) (o : ℕ) (v : FVec F S128x512 .f32) : PR F PUnit :=
  if ho : o < 17 then Prog.lift (.store oM (oR j c o ho) v Finset.univ (View.stores_vmem_bits_univ h_S128x512 rfl) (.inl rfl)) else pure ⟨⟩

/-- What each step does on device `c`. -/
def run (c : Dev nD) : Op → PR F PUnit
  | .mm o => if ho : o < 17 then do
      let x ← Prog.lift (.load xM (Rect.unit (s := S2048x128) (k0_off1 c (offW o)) S128x128.size (off1_inb c o ho)).toLoadRect (View.loadsAt_vmem h_S128x128))
      let w ← Prog.lift (.load wM (Rect.unit (s := S128x2048) ![0, 0] S128x2048.size inb_S128x2048_S128x2048_0_0).toLoadRect (View.loadsAt_vmem h_S128x2048))
      let _ ← Prog.lift (.load oM (Rect.unit (s := S2048x2048) (k0_off2 c (offW o)) S128x2048.size (off2_inb c o ho)).toLoadRect (View.loadsAt_vmem h_S128x2048))
      Prog.lift (.store oM (Rect.unit (s := S2048x2048) (k0_off2 c (offW o)) S128x2048.size (off2_inb c o ho)) (mmV x w) Finset.univ (View.stores_vmem_bits_univ h_S128x2048 rfl) (.inl rfl))
      else pure ⟨⟩
  | .sig r => semSignalWord (if r then rgt c else lft c) barS 1#32
  | .bar => semWaitWord barS 2#32
  | .seed l => do
      let y ← ldO (col l) c (seedO l)
      let _ ← ldC l 0
      stC l 0 (seedV y)
  | .credit l => semWaitWord (kSem l).sem 1#32
  | .send l k => Prog.lift (.enqueueDma (slM l (sl k)) (.remote (Dev.tc (dst l c)) (slM l (sl (k + 1))) (.dma (at3 (sSem l) (sl k))))
      (.dma (at3 (rSem l) (sl (k + 1)))) (slM_word l _) (slM_word l _) ⟨⟨rfl, Or.inl rfl⟩, trivial⟩)
  | .sent l k => Prog.lift (.waitDma2 (at3 (sSem l) (sl k)) (slM l (sl (k + 1))) (slM l (sl k)) (slM_word l _) (slM_word l _))
  | .grant l k => semSignalWord (src l c) (kSem l).sem 1#32
  | .recv l k => Prog.lift (.waitDma2 (at3 (rSem l) (sl (k + 1))) (slM l (sl k)) (slM l (sl (k + 1))) (slM_word l _) (slM_word l _))
  | .add l k => do
      let z ← ldC l (sl (k + 1))
      let y ← ldO (col l) c (hopO l k)
      let _ ← ldC l (sl (k + 1))
      stC l (sl (k + 1)) (addV z y)
  | .comb a b => do
      let u ← ldC a 2
      let v ← ldC b 1
      let y ← ldO (col a) c 8
      let _ ← ldO (col a) c 8
      stO (col a) c 8 (actV u v y)
      let _ ← ldC a 2
      stC a 2 (packV (actV u v y))
      let _ ← ldC b 1
      stC b 1 (packV (actV u v y))
  | .store l k => do
      let z ← ldC l (sl (k + 1))
      let _ ← ldO (col l) c (hopO l k)
      stO (col l) c (hopO l k) (wideV z)

/-- A list of steps, one after the other. -/
def runAll (c : Dev nD) : List Op → PR F PUnit
  | [] => pure ⟨⟩
  | o :: os => run c o >>= fun _ => runAll c os

/-! ## The order of the steps -/

def issue (l : Fin 8) (k : ℕ) : List Op := (if 2 ≤ k then [.credit l] else []) ++ [.send l k]
def finish (l : Fin 8) (k : ℕ) : List Op := .sent l k :: (if k + 2 ≤ last l then [.grant l k] else [])

/-- One turn of the loop. -/
def turn (s : ℕ) : List Op :=
  (if s ≤ 15 then issue 0 s ++ issue 6 s else [])
  ++ (if 1 ≤ s ∧ s ≤ 14 then issue 4 (s - 1) ++ issue 2 (s - 1) else [])
  ++ (if s = 0 then [14, 2, 13, 3, 12, 4, 11, 5, 10, 6, 9, 7, 8].map .mm else [])
  ++ (if 9 ≤ s ∧ s ≤ 16 then [.store 0 (s - 1), .store 6 (s - 1)] else [])
  ++ (if 9 ≤ s ∧ s ≤ 15 then [.store 4 (s - 2), .store 2 (s - 2)] else [])
  ++ (if 1 ≤ s ∧ s ≤ 16 then
        finish 1 (s - 1) ++ [.recv 1 (s - 1)] ++ (if s ≤ 7 then [.add 1 (s - 1)] else [])
        ++ finish 7 (s - 1) ++ [.recv 7 (s - 1)] ++ (if s ≤ 7 then [.add 7 (s - 1)] else []) else [])
  ++ (if 2 ≤ s ∧ s ≤ 15 then
        finish 5 (s - 2) ++ [.recv 5 (s - 2)] ++ (if s ≤ 7 then [.add 5 (s - 2)] else [])
        ++ finish 3 (s - 2) ++ [.recv 3 (s - 2)] ++ (if s ≤ 7 then [.add 3 (s - 2)] else []) else [])
  ++ (if s = 8 then [.comb 1 5, .comb 7 3] else [])
  ++ (if s ≤ 15 then issue 1 s ++ issue 7 s else [])
  ++ (if 1 ≤ s ∧ s ≤ 14 then issue 5 (s - 1) ++ issue 3 (s - 1) else [])
  ++ (if 9 ≤ s ∧ s ≤ 16 then [.store 1 (s - 1), .store 7 (s - 1)] else [])
  ++ (if 9 ≤ s ∧ s ≤ 15 then [.store 5 (s - 2), .store 3 (s - 2)] else [])
  ++ (if s ≤ 15 then
        finish 0 s ++ [.recv 0 s] ++ (if s ≤ 6 then [.add 0 s] else [])
        ++ finish 6 s ++ [.recv 6 s] ++ (if s ≤ 6 then [.add 6 s] else []) else [])
  ++ (if 1 ≤ s ∧ s ≤ 14 then
        finish 4 (s - 1) ++ [.recv 4 (s - 1)] ++ (if s ≤ 6 then [.add 4 (s - 1)] else [])
        ++ finish 2 (s - 1) ++ [.recv 2 (s - 1)] ++ (if s ≤ 6 then [.add 2 (s - 1)] else []) else [])
  ++ (if s = 7 then [.comb 0 4, .comb 6 2] else [])

/-- The whole body. -/
def ops : List Op :=
  [.mm 16, .mm 15, .mm 1, .sig false, .sig true, .bar, .seed 0, .seed 6, .seed 1, .seed 7, .seed 4, .seed 2, .seed 5, .seed 3]
  ++ (List.range 17).flatMap turn

set_option maxRecDepth 100000 in
/-- The body runs the steps `ops` in order on the device it finds itself on. -/
theorem body_eq :
    cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31
      = Prog.lift .deviceId >>= fun c => runAll c ops := by
  chain_rfl

end Cert.Ring

end
-- ==== Proof.Values.lean ====
/-
# What the ring's buffers hold

The blocks of the result, what the lanes carry from hop to hop as functions of every device's operands, and how the
body's loads and stores read and change blocks and slots.
-/
module

public import proofs.«01_k».proof.Proof.Ops
public import Idealize.ShloMosaic.Lib.MemrefSat

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

/-! ## The ring -/

theorem lft_rgt (c : Dev nD) : lft (rgt c) = c := by
  have h : ∀ c : Dev nD, lft (rgt c) = c := by decide +kernel
  exact h c
theorem rgt_lft (c : Dev nD) : rgt (lft c) = c := by
  have h : ∀ c : Dev nD, rgt (lft c) = c := by decide +kernel
  exact h c
theorem pos_rgt (c : Dev nD) : pos (rgt c) = (pos c + 1) % 16 := by
  have h : ∀ c : Dev nD, pos (rgt c) = (pos c + 1) % 16 := by decide +kernel
  exact h c
theorem pos_lt (c : Dev nD) : pos c < 16 := by
  have h : ∀ c : Dev nD, pos c < 16 := by decide +kernel
  exact h c
theorem pos_inj {c d : Dev nD} (h : pos c = pos d) : c = d := by
  have h' : ∀ c d : Dev nD, pos c = pos d → c = d := by decide +kernel
  exact h' c d h
theorem lft_ne_rgt (c : Dev nD) : lft c ≠ rgt c := by
  have h : ∀ c : Dev nD, lft c ≠ rgt c := by decide +kernel
  exact h c

theorem src_dst (l : Fin 8) (c : Dev nD) : src l (dst l c) = c := by
  unfold src dst; split
  · exact lft_rgt c
  · exact rgt_lft c
theorem dst_src (l : Fin 8) (c : Dev nD) : dst l (src l c) = c := by
  unfold src dst; split
  · exact rgt_lft c
  · exact lft_rgt c

theorem row_rgt (c : Dev nD) (o : ℕ) : row (rgt c) o = row c (o + 1) := by
  unfold row; rw [pos_rgt]; omega
theorem row_lft (c : Dev nD) (o : ℕ) : row (lft c) (o + 1) = row c o := by
  rw [← row_rgt, rgt_lft]
theorem row_mod (c : Dev nD) (o : ℕ) : row c (o % 16) = row c o := by unfold row; omega
theorem row_inj {c : Dev nD} {o o' : ℕ} (ho : o < 16) (ho' : o' < 16) (h : row c o = row c o') : o = o' := by
  unfold row at h; omega

/-- A row block as an index. -/
def rowF (c : Dev nD) (o : ℕ) : Fin 16 := ⟨row c o, row_lt c o⟩

theorem rowF_mod (c : Dev nD) (o : ℕ) : rowF c (o % 16) = rowF c o := Fin.ext (row_mod c o)
theorem rowF_inj {c : Dev nD} {o o' : ℕ} (ho : o < 16) (ho' : o' < 16) (h : rowF c o = rowF c o') : o = o' :=
  row_inj ho ho' (congrArg Fin.val h)

/-! ## Blocks of the result -/

/-- Index `i` of the 128 by 512 block at row block `r` and column block `j`, as an index of the result. -/
def bIx (r : Fin 16) (j : Fin 4) (i : S128x512.Idx) : S2048x2048.Idx :=
  Shape.pair (d := ![2048, 2048])
    ⟨128 * r.val + (i 0).val, by have h : (i 0).val < 128 := (i 0).isLt; have := r.isLt; show _ < 2048; omega⟩
    ⟨512 * j.val + (i 1).val, by have h : (i 1).val < 512 := (i 1).isLt; have := j.isLt; show _ < 2048; omega⟩

/-- A block of contents of the result. -/
def blk (f : S2048x2048.Idx → Elt F .f32) (r : Fin 16) (j : Fin 4) : Vec F S128x512 .f32 := fun i => f (bIx r j i)

/-- Index `i` of a row block of `x`; a column block of a row of products. -/
def xIx (r : Fin 16) (i : S128x128.Idx) : S2048x128.Idx :=
  Shape.pair (d := ![2048, 128])
    ⟨128 * r.val + (i 0).val, by have h : (i 0).val < 128 := (i 0).isLt; have := r.isLt; show _ < 2048; omega⟩
    ⟨(i 1).val, (i 1).isLt⟩
def pIx (j : Fin 4) (i : S128x512.Idx) : S128x2048.Idx :=
  Shape.pair (d := ![128, 2048]) ⟨(i 0).val, (i 0).isLt⟩
    ⟨512 * j.val + (i 1).val, by have h : (i 1).val < 512 := (i 1).isLt; have := j.isLt; show _ < 2048; omega⟩

theorem idx_off2 (c : Dev nD) (o : ℕ) (ho : o < 17) (j : Fin 4) (i : S128x512.Idx) :
    (Rect.unit (s := S2048x2048) (k0_off2 c (offW o)) S128x2048.size (off2_inb c o ho)).emb (pIx j i) = bIx (rowF c o) j i := by
  funext a; apply Fin.ext
  rw [Rect.emb_apply]
  show k0_off2 c (offW o) a + 1 * _ = _
  rw [Nat.one_mul]
  refine (congrArg (· + _) (congrFun (off2_eq c o ho) a)).trans ?_
  fin_cases a
  · rfl
  · exact Nat.zero_add _

theorem idx_oR (j : Fin 4) (c : Dev nD) (o : ℕ) (ho : o < 17) (i : S128x512.Idx) :
    (oR j c o ho).emb i = bIx (rowF c o) j i := by
  funext a; apply Fin.ext
  rw [Rect.emb_apply]
  show offC j c (offW o) a + 1 * _ = _
  rw [Nat.one_mul]
  refine (congrArg (· + _) (congrFun (offC_eq j c o ho) a)).trans ?_
  fin_cases a <;> rfl

theorem bIx_inj {r r' : Fin 16} {j j' : Fin 4} {i i' : S128x512.Idx} (h : bIx r j i = bIx r' j' i') : r = r' ∧ j = j' ∧ i = i' := by
  have h0 : 128 * r.val + (i 0).val = 128 * r'.val + (i' 0).val := congrArg (fun x : S2048x2048.Idx => (x 0).val) h
  have h1 : 512 * j.val + (i 1).val = 512 * j'.val + (i' 1).val := congrArg (fun x : S2048x2048.Idx => (x 1).val) h
  have a0 : (i 0).val < 128 := (i 0).isLt
  have a1 : (i 1).val < 512 := (i 1).isLt
  have b0 : (i' 0).val < 128 := (i' 0).isLt
  have b1 : (i' 1).val < 512 := (i' 1).isLt
  refine ⟨Fin.ext (by omega), Fin.ext (by omega), ?_⟩
  funext a; apply Fin.ext
  have e0 : (i 0).val = (i' 0).val := by omega
  have e1 : (i 1).val = (i' 1).val := by omega
  fin_cases a
  · exact e0
  · exact e1

theorem pIx_surj (i : S128x2048.Idx) : ∃ (j : Fin 4) (i' : S128x512.Idx), pIx j i' = i := by
  have h0 : (i 0).val < 128 := (i 0).isLt
  have h1 : (i 1).val < 2048 := (i 1).isLt
  refine ⟨⟨(i 1).val / 512, by omega⟩, Shape.pair (d := ![128, 512]) ⟨(i 0).val, h0⟩ ⟨(i 1).val % 512, Nat.mod_lt _ (by decide)⟩, ?_⟩
  funext a; apply Fin.ext
  fin_cases a
  · rfl
  · show 512 * ((i 1).val / 512) + (i 1).val % 512 = (i 1).val
    omega

theorem bIx_surj (i : S2048x2048.Idx) : ∃ (r : Fin 16) (j : Fin 4) (i' : S128x512.Idx), bIx r j i' = i := by
  have h0 : (i 0).val < 2048 := (i 0).isLt
  have h1 : (i 1).val < 2048 := (i 1).isLt
  refine ⟨⟨(i 0).val / 128, by omega⟩, ⟨(i 1).val / 512, by omega⟩,
    Shape.pair (d := ![128, 512]) ⟨(i 0).val % 128, Nat.mod_lt _ (by decide)⟩ ⟨(i 1).val % 512, Nat.mod_lt _ (by decide)⟩, ?_⟩
  funext a; apply Fin.ext
  fin_cases a
  · show 128 * ((i 0).val / 128) + (i 0).val % 128 = (i 0).val
    omega
  · show 512 * ((i 1).val / 512) + (i 1).val % 512 = (i 1).val
    omega

/-- A load of a block of the result reads the block. -/
theorem read_oR (j : Fin 4) (c : Dev nD) (o : ℕ) (ho : o < 17) (f : S2048x2048.Idx → Elt F .f32) :
    oM.view.readAt (Elt F) (oR j c o ho).toLoadRect f = blk f (rowF c o) j :=
  funext fun i => congrArg f (idx_oR j c o ho i)

/-- A store into the result, at an index under its rectangle and at one outside it. -/
theorem write_in (r : Rect S2048x2048) (f : S2048x2048.Idx → Elt F .f32) (v : r.shape.Idx → Elt F .f32) (x : r.shape.Idx)
    {i : S2048x2048.Idx} (h : r.emb x = i) : (oM.access r).write (Elt F) f v Finset.univ i = v x := by
  subst h
  exact View.write_emb_of_mem (v := oM.access r) (Val := Elt F) f v (Finset.mem_univ x)
theorem write_out (r : Rect S2048x2048) (f : S2048x2048.Idx → Elt F .f32) (v : r.shape.Idx → Elt F .f32)
    {i : S2048x2048.Idx} (h : ∀ x, r.emb x ≠ i) : (oM.access r).write (Elt F) f v Finset.univ i = f i := by
  refine View.write_of_not_mem (v := oM.access r) (Val := Elt F) f v Finset.univ (i := i) fun hm => ?_
  obtain ⟨x, -, hx⟩ := Finset.mem_map.mp hm
  exact h x hx

/-- A store of a block changes that block and no other. -/
theorem blk_write (j : Fin 4) (c : Dev nD) (o : ℕ) (ho : o < 17) (f : S2048x2048.Idx → Elt F .f32) (v : FVec F S128x512 .f32)
    (r : Fin 16) (j' : Fin 4) :
    blk ((oM.access (oR j c o ho)).write (Elt F) f v Finset.univ) r j' = if r = rowF c o ∧ j' = j then v else blk f r j' := by
  funext i
  unfold blk
  split
  · rename_i h
    obtain ⟨rfl, rfl⟩ := h
    exact write_in (oR j' c o ho) f v i (idx_oR j' c o ho i)
  · rename_i h
    refine write_out (oR j c o ho) f v fun x hx => h ?_
    obtain ⟨e1, e2, -⟩ := bIx_inj ((idx_oR j c o ho x).symm.trans hx)
    exact ⟨e1.symm, e2.symm⟩

/-- The rectangle of a row block of the result. -/
abbrev oW (c : Dev nD) (o : ℕ) (ho : o < 17) : Rect S2048x2048 :=
  Rect.unit (s := S2048x2048) (k0_off2 c (offW o)) S128x2048.size (off2_inb c o ho)

/-- An index under a row block's rectangle lies in the row block. -/
theorem oW_row (c : Dev nD) (o : ℕ) (ho : o < 17) (r : Fin 16) (j' : Fin 4) (i : S128x512.Idx) (x : S128x2048.Idx)
    (h : (oW c o ho).emb x = bIx r j' i) : r = rowF c o := by
  obtain ⟨j, y, hy⟩ := pIx_surj x
  subst hy
  exact (bIx_inj ((idx_off2 c o ho j y).symm.trans h)).1.symm

theorem blk_apply (f : S2048x2048.Idx → Elt F .f32) (r : Fin 16) (j : Fin 4) (i : S128x512.Idx) : blk f r j i = f (bIx r j i) := rfl

/-- A store of a row block of products changes its four blocks -/
theorem write_row_in (c : Dev nD) (o : ℕ) (ho : o < 17) (f : S2048x2048.Idx → Elt F .f32) (v : FVec F S128x2048 .f32)
    (j' : Fin 4) (i : S128x512.Idx) :
    (oM.access (oW c o ho)).write (Elt F) f v Finset.univ (bIx (rowF c o) j' i) = v (pIx j' i) :=
  write_in (oW c o ho) f v (pIx j' i) (idx_off2 c o ho j' i)
theorem blk_write_row_in (c : Dev nD) (o : ℕ) (ho : o < 17) (f : S2048x2048.Idx → Elt F .f32) (v : FVec F S128x2048 .f32)
    (j' : Fin 4) :
    blk ((oM.access (oW c o ho)).write (Elt F) f v Finset.univ) (rowF c o) j' = fun i => v (pIx j' i) :=
  funext fun i => (blk_apply _ _ _ _).trans (write_row_in c o ho f v j' i)

/-- and no other. -/
theorem write_row_out (c : Dev nD) (o : ℕ) (ho : o < 17) (f : S2048x2048.Idx → Elt F .f32) (v : FVec F S128x2048 .f32)
    (r : Fin 16) (j' : Fin 4) (h : r ≠ rowF c o) (i : S128x512.Idx) :
    (oM.access (oW c o ho)).write (Elt F) f v Finset.univ (bIx r j' i) = f (bIx r j' i) :=
  write_out (oW c o ho) f v fun x hx => h (oW_row c o ho r j' i x hx)
theorem blk_write_row_out (c : Dev nD) (o : ℕ) (ho : o < 17) (f : S2048x2048.Idx → Elt F .f32) (v : FVec F S128x2048 .f32)
    (r : Fin 16) (j' : Fin 4) (h : r ≠ rowF c o) :
    blk ((oM.access (oW c o ho)).write (Elt F) f v Finset.univ) r j' = blk f r j' :=
  funext fun i => ((blk_apply _ _ _ _).trans (write_row_out c o ho f v r j' h i)).trans (blk_apply f r j' i).symm

/-! ## What the lanes carry -/

section Values

variable (X : Dev nD → Vec F S2048x128 .bf16) (W : Dev nD → Vec F S128x2048 .bf16)

/-- Device `c`'s own product, block by block. -/
def accB (c : Dev nD) (r : Fin 16) (j : Fin 4) : Vec F S128x512 .f32 :=
  fun i => mmV (fun i' => X c (xIx r i')) (W c) (pIx j i)
/-- The same at a relative row block. -/
def acc (c : Dev nD) (o : ℕ) (j : Fin 4) : Vec F S128x512 .f32 := accB X W c (rowF c o) j

/-- The partial sum that device `c` sends on its `k`-th hop of lane `l`. -/
def part (l : Fin 8) : ℕ → Dev nD → FVec F S1x128x512 .bf16
  | 0, c => seedV (acc X W c (seedO l) (col l))
  | k + 1, c => addV (part l k (src l c)) (acc X W c (hopO l k) (col l))

/-- The two lanes of a column block. -/
def longL (j : Fin 4) : Fin 8 := if j.val < 2 then ⟨j.val, by omega⟩ else ⟨j.val + 4, by omega⟩
def shortL (j : Fin 4) : Fin 8 := if j.val < 2 then ⟨j.val + 4, by omega⟩ else ⟨j.val, by omega⟩

/-- The finished block that device `c` computes in column block `j`. -/
def fin (j : Fin 4) (c : Dev nD) : FVec F S128x512 .f32 :=
  actV (part X W (longL j) 7 (src (longL j) c)) (part X W (shortL j) 6 (src (shortL j) c)) (acc X W c 8 j)

/-- What device `c` sends on its `k`-th hop of lane `l`: a partial sum, later a finished block of a device behind it. -/
def val (l : Fin 8) (k : ℕ) (c : Dev nD) : FVec F S1x128x512 .bf16 :=
  if k < far l then part X W l k c else packV (fin X W (col l) ((src l)^[k - far l] c))

theorem val_zero (l : Fin 8) (c : Dev nD) : val X W l 0 c = seedV (acc X W c (seedO l) (col l)) := by
  unfold val; rw [if_pos (by unfold far; split <;> decide)]; rfl
theorem val_add (l : Fin 8) (k : ℕ) (c : Dev nD) (h : k + 1 < far l) :
    addV (val X W l k (src l c)) (acc X W c (hopO l k) (col l)) = val X W l (k + 1) c := by
  unfold val; rw [if_pos h, if_pos (by omega)]; rfl
theorem val_far (l : Fin 8) (c : Dev nD) : val X W l (far l) c = packV (fin X W (col l) c) := by
  unfold val; rw [if_neg (Nat.lt_irrefl _), Nat.sub_self]; rfl
theorem val_pass (l : Fin 8) (k : ℕ) (c : Dev nD) (h : far l ≤ k) : val X W l (k + 1) c = val X W l k (src l c) := by
  unfold val
  rw [if_neg (by omega), if_neg (by omega), show k + 1 - far l = (k - far l) + 1 by omega, Function.iterate_succ_apply]

end Values

/-! ## Slots -/

/-- Slot `s` of lane `l`'s buffer, as the loads and stores see it. -/
abbrev slC (l : Fin 8) (s : Fin 3) : Memref sig .tc .vmem S1x128x512 .bf16 := (cM l).slice (slR s) (fun _ => rfl)

theorem slM_set (l : Fin 8) (s : Fin 3) : (slM l s).view.set = (slC l s).view.set := View.set_reshape _ _

/-- A copy from slot to slot carries what the loads read. -/
theorem slC_copy (l : Fin 8) (s s' : Fin 3) (fd fs : (cM l).view.ty.Contents (Elt F)) :
    (slC l s').view.read (Elt F) ((slM l s').view.write (Elt F) fd ((slM l s).view.read (Elt F) fs) Finset.univ) = (slC l s).view.read (Elt F) fs := by
  have h := View.read_write_univ (v := (slM l s').view) (Val := Elt F) fd ((slM l s).view.read (Elt F) fs)
  funext i
  obtain ⟨i', rfl⟩ := (Shape.reshapeEquiv (squeezes_S1x128x512_S128x512).numel_eq).surjective i
  exact congrFun h i'

theorem slC_write (l : Fin 8) (s : Fin 3) (f : (cM l).view.ty.Contents (Elt F)) (v : FVec F S1x128x512 .bf16) :
    (slC l s).view.read (Elt F) (((cM l).access (slR s)).write (Elt F) f v Finset.univ) = v :=
  View.read_write_univ (v := (slC l s).view) f v

theorem slR_disj {s s' : Fin 3} (h : s ≠ s') : Disjoint (slR s).set (slR s').set :=
  Rect.unit_disjoint 0 (by
    show s.val + 1 ≤ s'.val ∨ s'.val + 1 ≤ s.val
    have : s.val ≠ s'.val := fun e => h (Fin.ext e)
    omega)
theorem slR_cover : (Finset.univ : Finset (Fin 3)).biUnion (fun s => (slR s).set) = Finset.univ := by
  ext i
  simp only [Finset.mem_biUnion, Finset.mem_univ, true_and, iff_true]
  refine ⟨⟨(i 0).val, (i 0).isLt⟩, Rect.mem_set_unit.mpr fun a => ?_⟩
  have h1 : (i 1).val < 128 := (i 1).isLt
  have h2 : (i 2).val < 512 := (i 2).isLt
  fin_cases a
  · exact ⟨Nat.le_refl _, Nat.lt_succ_self _⟩
  · exact ⟨Nat.zero_le _, by show (i 1).val < 0 + 128; omega⟩
  · exact ⟨Nat.zero_le _, by show (i 2).val < 0 + 512; omega⟩

end Cert.Ring

end
-- ==== Proof.Sched.lean ====
/-
# The ring's protocol

Every device has a barrier cell, and per lane three send cells, three receive cells and one credit cell. This module
states which payments each cell expects round by round and what each payment hands over, what every device owes at
launch, and the order of the payments by which no wait is for something that is only paid later.

A lane's slot is written by the neighbour behind. The slot's device releases it, and the neighbour takes it for its
`n`-th write once it has heard of the `n`-th release. The news travels with the barrier signals (the first two slots)
and with the credits: a credit carries the news of every release so far, so that whatever the order in which credits
are counted, the `n`-th wait has heard of the `n`-th release.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Idealize.SL.BI.BigOpNat

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

/-! ## The cells -/

/-- A device's cells: the barrier, the lanes' send and receive cells, the lanes' credits. -/
abbrev Cell : Type := Unit ⊕ (Fin 8 × Fin 3) ⊕ (Fin 8 × Fin 3) ⊕ Fin 8
abbrev cBar : Cell := .inl ()
abbrev cSnd (l : Fin 8) (s : Fin 3) : Cell := .inr (.inl (l, s))
abbrev cRcv (l : Fin 8) (s : Fin 3) : Cell := .inr (.inr (.inl (l, s)))
abbrev cCrd (l : Fin 8) : Cell := .inr (.inr (.inr l))

def enc : Cell → SemLoc sig
  | .inl _ => .reg barS
  | .inr (.inl (l, s)) => .dma (at3 (sSem l) s)
  | .inr (.inr (.inl (l, s))) => .dma (at3 (rSem l) s)
  | .inr (.inr (.inr l)) => .reg (kSem l).sem

/-- Lane and slot of the `n`-th of twenty-four cells. -/
def ls (n : ℕ) : Fin 8 × Fin 3 := (⟨n / 3 % 8, Nat.mod_lt _ (by decide)⟩, ⟨n % 3, Nat.mod_lt _ (by decide)⟩)

def dec : SemLoc sig → Option Cell
  | .dma q => if q.val < 3 then none else if q.val < 27 then some (.inr (.inl (ls (q.val - 3)))) else some (.inr (.inr (.inl (ls (q.val - 27)))))
  | .reg q => if h : q.val < 8 then some (.inr (.inr (.inr ⟨q.val, h⟩))) else some (.inl ())

theorem dec_enc (x : Cell) : dec (enc x) = some x := by
  have h : ∀ x : Cell, dec (enc x) = some x := by decide +kernel
  exact h x
theorem enc_inj {x y : Cell} (h : enc x = enc y) : x = y :=
  Option.some.inj ((dec_enc x).symm.trans ((congrArg dec h).trans (dec_enc y)))

/-- Cell `x` of device `c`. -/
abbrev gcell (c : Dev nD) (x : Cell) : GSem nD τ sig := ((c : Thread nD τ), enc x)

theorem gcell_inj {c d : Dev nD} {x y : Cell} (h : gcell c x = gcell d y) : c = d ∧ x = y := by
  refine ⟨?_, enc_inj (congrArg Prod.snd h)⟩
  have := congrArg (fun g : GSem nD τ sig => g.1.1) h
  exact this

/-! ## The ghost state -/

/-- A slot: device, lane, number. -/
abbrev Key : Type := Dev nD × Fin 8 × Fin 3

abbrev UB : Type := URounds (GSem nD τ sig) ℕ
abbrev UX : Type := UB × USlots Key
abbrev UU : Type := UR sig nD τ × UX

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB UX).trans embR
def EK : Emb (USlots Key) (MT nD τ sig ℕ (Elt F) ℕ UU ℕ) := (Emb.inr : Emb (USlots Key) UX).trans embR

instance ER_lands : (ER (F := F)).LandsIn (upEmb : UEmb _ 𝕄) := by unfold ER; infer_instance
instance EK_lands : (EK (F := F)).LandsIn (upEmb : UEmb _ 𝕄) := by unfold EK; infer_instance

/-- What a hop moves, as the semaphores count it. -/
def N : ℕ := (slM 0 0).view.dmaCredit
theorem N_eq (l : Fin 8) (s : Fin 3) (q : DmaSem sig) : (slM l s).view.amount (.dma q) = N := by
  unfold N; fin_cases l <;> rfl
theorem N_pos : 0 < N := View.dmaCredit_pos _ (by decide)

/-- The slot at any contents. -/
def slotP (k : Key) : sProp 𝕄 := slot ((slC k.2.1 k.2.2).view.loc (k.1 : Thread nD τ)) (slC k.2.1 k.2.2).view.set

instance slotP_storable (k : Key) : BI.Storable (upEmb : UEmb _ 𝕄) (slotP (F := F) k) := by unfold slotP; infer_instance

theorem slotP_false (k : Key) : iprop(slotP k ∗ slotP k) ⊢ (False : sProp 𝕄) :=
  Release.slot_slot_false (by
    have h := View.card_set (slC k.2.1 k.2.2).view
    exact Finset.card_pos.mp (h ▸ by decide))

/-- Device `e` has released the slot that hop `k` of lane `l` arrives in, and waits for it. -/
def okHop (e : Dev nD) (l : Fin 8) (k : ℕ) : sProp 𝕄 :=
  iprop(released EK (e, l, sl (k + 1)) (k / 3 + 1) ∗ reached ER (gcell e (cRcv l (sl (k + 1)))) (k / 3))
/-- The same of the first `n` hops. -/
def okTo (e : Dev nD) (l : Fin 8) (n : ℕ) : sProp 𝕄 := bigSep (Finset.range n) (okHop e l)
/-- The first two hops of every lane that goes right (or left). -/
def okBar (e : Dev nD) (r : Bool) : sProp 𝕄 := bigSep (Finset.univ.filter fun l : Fin 8 => toR l = r) fun l => okTo e l 2

instance okHop_persistent (e : Dev nD) (l : Fin 8) (k : ℕ) : BI.Persistent (okHop (F := F) e l k) := by unfold okHop; infer_instance
instance okTo_persistent (e : Dev nD) (l : Fin 8) (n : ℕ) : BI.Persistent (okTo (F := F) e l n) := by unfold okTo; infer_instance
instance okBar_persistent (e : Dev nD) (r : Bool) : BI.Persistent (okBar (F := F) e r) := by unfold okBar; infer_instance
instance okHop_storable (e : Dev nD) (l : Fin 8) (k : ℕ) : BI.Storable (upEmb : UEmb _ 𝕄) (okHop (F := F) e l k) := by unfold okHop; infer_instance
instance okTo_storable (e : Dev nD) (l : Fin 8) (n : ℕ) : BI.Storable (upEmb : UEmb _ 𝕄) (okTo (F := F) e l n) := by unfold okTo; infer_instance
instance okBar_storable (e : Dev nD) (r : Bool) : BI.Storable (upEmb : UEmb _ 𝕄) (okBar (F := F) e r) := by unfold okBar; infer_instance

theorem okTo_elim (e : Dev nD) (l : Fin 8) {n k : ℕ} (h : k < n) : (okTo e l n : sProp 𝕄) ⊢ okHop e l k :=
  bigSep_elim (Finset.mem_range.mpr h)
theorem okTo_le (e : Dev nD) (l : Fin 8) {n k : ℕ} (h : k ≤ n) : (okTo e l n : sProp 𝕄) ⊢ okTo e l k :=
  bigSep_subset (Finset.range_mono h)
theorem okTo_succ (e : Dev nD) (l : Fin 8) (n : ℕ) : (okTo e l (n + 1) : sProp 𝕄) = iprop(okHop e l n ∗ okTo e l n) :=
  bigSep_range_succ n _

/-! ## The schedule -/

section Schedule

variable (X : Dev nD → Vec F S2048x128 .bf16) (W : Dev nD → Vec F S128x2048 .bf16)

def dutiesOf : Cell → ℕ → Finset ℕ
  | .inl _, r => if r = 0 then {0, 1} else ∅
  | .inr (.inl (l, s)), r => if 3 * r + s.val ≤ last l then {0} else ∅
  | .inr (.inr (.inl (l, s))), r => if 3 * r + (s.val + 2) % 3 ≤ last l then {0} else ∅
  | .inr (.inr (.inr l)), r => if r = 0 then Finset.range (last l - 1) else ∅

def amountOf : Cell → ℕ
  | .inl _ => 1
  | .inr (.inl _) => N
  | .inr (.inr (.inl _)) => N
  | .inr (.inr (.inr _)) => 1

def payOf (c : Dev nD) : Cell → ℕ → ℕ → sProp 𝕄
  | .inl _, _, d => if d = 0 then okBar (lft c) false else okBar (rgt c) true
  | .inr (.inl (l, s)), r, _ => owns (c : Thread nD τ) (slC l s) fullShare.left (val X W l (3 * r + s.val) c)
  | .inr (.inr (.inl (l, s))), r, _ => owns (c : Thread nD τ) (slC l s) fullShare (val X W l (3 * r + (s.val + 2) % 3) (src l c))
  | .inr (.inr (.inr l)), _, d => okTo (dst l c) l (d + 3)

instance payOf_storable (c : Dev nD) (x : Cell) (r d : ℕ) : BI.Storable (upEmb : UEmb _ 𝕄) (payOf X W c x r d) := by
  rcases x with _ | ⟨l, s⟩ | ⟨l, s⟩ | l
  · show BI.Storable upEmb (if d = 0 then okBar (lft c) false else okBar (rgt c) true)
    split <;> infer_instance
  · unfold payOf; infer_instance
  · unfold payOf; infer_instance
  · unfold payOf; infer_instance

def Rd : Rounds.Schedule (GSem nD τ sig) ℕ 𝕄 where
  duties g r := if g.1.2 = .tc then (dec g.2).elim ∅ (fun x => dutiesOf x r) else ∅
  unitless _ := False
  amount g _ _ := (dec g.2).elim 1 amountOf
  payload g r d := (dec g.2).elim iprop(emp) (fun x => payOf X W g.1.1 x r d)
  amount_pos g _ _ _ := by
    rcases dec g.2 with _ | _ | _ | _ | _
    · exact Nat.one_pos
    · exact Nat.one_pos
    · exact N_pos
    · exact N_pos
    · exact Nat.one_pos

instance Rd_storable (g : GSem nD τ sig) (r d : ℕ) : BI.Storable (upEmb : UEmb _ 𝕄) ((Rd X W).payload g r d) := by
  show BI.Storable upEmb ((dec g.2).elim iprop(emp) (fun x => payOf X W g.1.1 x r d))
  rcases dec g.2 with _ | x
  · exact inferInstanceAs (BI.Storable upEmb (iprop(emp) : sProp 𝕄))
  · exact payOf_storable X W g.1.1 x r d

theorem Rd_duties (c : Dev nD) (x : Cell) (r : ℕ) : (Rd X W).duties (gcell c x) r = dutiesOf x r := by
  show (if ((c : Thread nD τ)).2 = .tc then (dec (enc x)).elim ∅ (fun x => dutiesOf x r) else ∅) = _
  rw [dec_enc]; rfl
theorem Rd_amount (c : Dev nD) (x : Cell) (r d : ℕ) : (Rd X W).amount (gcell c x) r d = amountOf x := by
  show (dec (enc x)).elim 1 amountOf = _
  rw [dec_enc]; rfl
theorem Rd_payload (c : Dev nD) (x : Cell) (r d : ℕ) : (Rd X W).payload (gcell c x) r d = payOf X W c x r d := by
  show (dec (enc x)).elim iprop(emp) (fun x => payOf X W c x r d) = _
  rw [dec_enc]; rfl

theorem Rd_expect (c : Dev nD) (x : Cell) (r : ℕ) : (Rd X W).expect (gcell c x) r = (dutiesOf x r).card * amountOf x := by
  unfold Schedule.expect Schedule.amountOf
  rw [Rd_duties, Finset.sum_congr rfl fun d _ => Rd_amount X W c x r d, Finset.sum_const, smul_eq_mul]

end Schedule

/-! ## Who pays when -/

/-- The order of the payments: within a turn of the loop the leading lanes' hops, the trailing lanes' credits, the
    trailing lanes' hops, the leading lanes' credits. -/
def labS (l : Fin 8) (k : ℕ) : ℕ := 2 + 4 * (k + if long l then 0 else 1) + if l.val % 2 = 0 then 0 else 2
def labG (l : Fin 8) (k : ℕ) : ℕ :=
  if l.val % 2 = 0 then 2 + 4 * (k + if long l then 0 else 1) + 3 else 2 + 4 * (k + 1 + if long l then 0 else 1) + 1

/-- The place of a step's payment in that order; steps that pay nothing stand after all. -/
def lab : Op → ℕ
  | .sig _ => 1
  | .send l k => labS l k
  | .grant l k => labG l k
  | _ => 99

/-- What a step of device `c` pays to another device. -/
def owe (c : Dev nD) : Op → CellTallies nD τ sig ℕ
  | .sig r => tallyAt (gcell (if r then rgt c else lft c) cBar) 1 1
  | .send l k => tallyAt (gcell (dst l c) (cRcv l (sl (k + 1)))) (labS l k) N
  | .grant l k => tallyAt (gcell (src l c) (cCrd l)) (labG l k) 1
  | _ => 0

def owed (c : Dev nD) (os : List Op) : CellTallies nD τ sig ℕ := (os.map (owe c)).sum

theorem owed_cons (c : Dev nD) (o : Op) (os : List Op) : owed c (o :: os) = owed c os + owe c o := by
  unfold owed; rw [List.map_cons, List.sum_cons, add_comm]

theorem tally_pos {g g' : GSem nD τ sig} {ι ι' n : ℕ} (h : 0 < tallyAt g ι n g' ι') : g' = g ∧ ι' = ι := by
  rw [tallyAt_apply] at h
  by_contra hn
  rw [if_neg hn] at h
  exact Nat.lt_irrefl 0 h

theorem owe_pos {c : Dev nD} {o : Op} {g : GSem nD τ sig} {i : ℕ} (h : 0 < owe c o g i) : g.1.2 = .tc ∧ i = lab o := by
  cases o <;> first
    | exact absurd h (Nat.lt_irrefl 0)
    | (obtain ⟨rfl, rfl⟩ := tally_pos h; exact ⟨rfl, rfl⟩)

theorem owed_pos {c : Dev nD} {os : List Op} {g : GSem nD τ sig} {i : ℕ} (h : 0 < owed c os g i) :
    ∃ o ∈ os, g.1.2 = .tc ∧ i = lab o := by
  induction os with
  | nil => exact absurd h (Nat.lt_irrefl 0)
  | cons o os ih =>
    rw [owed_cons, Pi.add_apply, Finsupp.add_apply] at h
    rcases Nat.eq_zero_or_pos (owed c os g i) with h0 | h0
    · rw [h0, Nat.zero_add] at h
      exact ⟨o, List.mem_cons_self, owe_pos h⟩
    · obtain ⟨o', ho', h'⟩ := ih h0
      exact ⟨o', List.mem_cons_of_mem _ ho', h'⟩

/-- The payments' places, and their order. -/
def L (g : GSem nD τ sig) : Finset ℕ := if g.1.2 = .tc then Finset.range 100 else ∅
def lv (_ : GSem nD τ sig) (i : ℕ) : ℕ := i

theorem L_of_ne (g : GSem nD τ sig) (h : g.1.2 ≠ .tc) : L g = ∅ := if_neg h

/-- Every payment of the steps stands after place `w`. -/
def after (w : ℕ) (os : List Op) : Bool := os.all fun o => Nat.blt w (lab o) && Nat.ble (lab o) 99

/-- The order, as a fact every device holds. -/
def Lev : sProp 𝕄 := levAts L lv
instance Lev_persistent : BI.Persistent (Lev (F := F)) := by unfold Lev; infer_instance

/-- A device may wait for something paid at place `w` while all it still owes stands after `w`. -/
theorem mayWait (c : Dev nD) (sm : SemLoc sig) (w : ℕ) (os : List Op) (hw : w ≤ 99) (h : after w os = true) :
    (Lev : sProp 𝕄) ⊢ MayWait (c : Thread nD τ) sm w (owed c os) := by
  unfold Lev
  refine Pipeline.mayWait_of_levAts (by show w ∈ (if _ then _ else _); rw [if_pos rfl]; exact Finset.mem_range.mpr (by omega)) fun g i hg => ?_
  obtain ⟨o, ho, htc, rfl⟩ := owed_pos hg
  have h1 := List.all_eq_true.mp h o ho
  rw [Bool.and_eq_true, Nat.blt_eq, Nat.ble_eq] at h1
  refine ⟨?_, h1.1⟩
  unfold L; rw [if_pos htc]; exact Finset.mem_range.mpr (by omega)

end Cert.Ring

end
-- ==== Proof.Rules.lean ====
/-
# The steps that move something between devices

One rule for each kind of step that signals, waits or sends: what it needs and what it leaves, over the protocol of
`Sched`.
-/
module

public import proofs.«01_k».proof.Proof.Sched

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

/-- One of a family, the family being kept. -/
theorem bs_elim {I : Type} [DecidableEq I] {s : Finset I} {Φ : I → sProp 𝕄} {i : I} (h : i ∈ s) : (bigSep s Φ : sProp 𝕄) ⊢ Φ i := bigSep_elim h

abbrev 𝒱₀ : Variants := Variants.none

theorem bs_union {I : Type} [DecidableEq I] {s t : Finset I} (Φ : I → sProp 𝕄) (h : s ⊆ t) :
    (bigSep t Φ : sProp 𝕄) = iprop(bigSep s Φ ∗ bigSep (t \ s) Φ) := by
  conv_lhs => rw [← Finset.union_sdiff_of_subset h]
  exact bigSep_union Finset.disjoint_sdiff

section Rules

variable (X : Dev nD → Vec F S2048x128 .bf16) (W : Dev nD → Vec F S128x2048 .bf16)
variable (K : Dev nD × Cell → ℕ) (Ks : Key → ℕ)

/-- What every device knows throughout: the invariants of all cells and slots, that round 0 of every cell is reached,
    and the order of the payments. -/
def Ctx : sProp 𝕄 :=
  iprop((bigSep Finset.univ fun p : Dev nD × Cell => cellInv ER (Rd X W) (K p) (gcell p.1 p.2))
    ∗ (bigSep Finset.univ fun k : Key => slotInv EK (Ks k) k (slotP k))
    ∗ (bigSep Finset.univ fun p : Dev nD × Cell => reached ER (gcell p.1 p.2) 0)
    ∗ Lev)

instance Ctx_persistent : BI.Persistent (Ctx X W K Ks) := by unfold Ctx; infer_instance

theorem ctx_inv (c : Dev nD) (x : Cell) : Ctx X W K Ks ⊢ cellInv ER (Rd X W) (K (c, x)) (gcell c x) := by
  unfold Ctx; iintro ⟨H, -⟩
  iapply (bs_elim (Φ := fun p : Dev nD × Cell => cellInv ER (Rd X W) (K p) (gcell p.1 p.2)) (Finset.mem_univ (c, x))) $$ H
theorem ctx_slot (k : Key) : Ctx X W K Ks ⊢ slotInv EK (Ks k) k (slotP k) := by
  unfold Ctx; iintro ⟨-, H, -⟩
  iapply (bs_elim (Φ := fun k : Key => slotInv EK (Ks k) k (slotP k)) (Finset.mem_univ k)) $$ H
theorem ctx_zero (c : Dev nD) (x : Cell) : Ctx X W K Ks ⊢ reached ER (gcell c x) 0 := by
  unfold Ctx; iintro ⟨-, -, H, -⟩
  iapply (bs_elim (Φ := fun p : Dev nD × Cell => reached ER (gcell p.1 p.2) 0) (Finset.mem_univ (c, x))) $$ H
theorem ctx_lev : Ctx X W K Ks ⊢ Lev := by
  unfold Ctx; iintro ⟨-, -, -, H⟩; iexact H

set_option maxRecDepth 20000 in
/-- A device may wait for something paid at place `w` while all it still owes stands after `w`. -/
theorem ctx_may (c : Dev nD) (sm : SemLoc sig) (w : ℕ) (os : List Op) (hw : w ≤ 99) (h : after w os = true) :
    Ctx X W K Ks ⊢ MayWait (c : Thread nD τ) sm w (owed c os) := (ctx_lev X W K Ks).trans (mayWait c sm w os hw h)

/-- The execution of `p` on device `c`, to end in `Q`. -/
abbrev WP (c : Dev nD) (p : PR F PUnit) (Q : sProp 𝕄) : sProp 𝕄 :=
  wp frame (wpE (defs₀ (F := F)) 𝒱₀ (c : Thread nD τ) none) Set.univ p (fun _ => Q)

/-- What the device owes while the steps `os` remain. -/
def owesA (c : Dev nD) (os : List Op) : sProp 𝕄 := iprop(∃ U, owes (c : Thread nD τ) (owed c os) U)

/-- A wait on the last of the round's payments. -/
theorem wait_rule (c : Dev nD) (x : Cell) (w n r m : ℕ) (T : Finset ℕ) (os : List Op) (e : TpuEff nD τ sig (Elt F) Λ₀ .tc PUnit)
    (he : ∀ J : PUnit → sProp 𝕄, wpE (defs₀ (F := F)) 𝒱₀ (c : Thread nD τ) none Set.univ e J = waitSpec (c : Thread nD τ) Set.univ (enc x) n J)
    (hn : m + n = (dutiesOf x r).card * amountOf x) (hw : w ≤ 99) (ho : after w os = true) (k : PR F PUnit) (Q : sProp 𝕄) :
    iprop(Ctx X W K Ks ∗ cred (tallyAt (gcell c x) w n) ∗ owesA c os ∗ atPos ER (gcell c x) r T m)
      ⊢ iprop(((owesA c os ∗ atPos ER (gcell c x) (r + 1) ∅ 0 ∗ reached ER (gcell c x) (r + 1)
            ∗ bigSep (dutiesOf x r \ T) (fun d => payOf X W c x r d)) -∗ WP c k Q)
          -∗ WP c (.op e fun _ => k) Q) := by
  iintro ⟨#HC, Hcr, HO, Hat⟩ Hk
  unfold owesA
  icases HO with ⟨%U, HO⟩
  iapply (Rounds.wp_wait_rest_token 𝒱₀ ER (Rd X W) (c : Thread nD τ) none (κ := K (c, x)) he (Set.mem_univ _) w
      (O := owed c os) (W := U) (R := r) (m := m) (T := T) (hn.trans (Rd_expect X W c x r).symm)) $$ [Hcr HO Hat]
  · isplitr; · iapply (ctx_inv X W K Ks c x); iexact HC
    isplitl [Hcr]; · iexact Hcr
    isplitl [HO]; · iexact HO
    isplitr; · iapply (ctx_may X W K Ks c _ w os hw ho); iexact HC
    iexact Hat
  iintro ⟨HO, Hat, Hr, Hp⟩
  iapply Hk
  isplitl [HO]; · iexists _; iexact HO
  isplitl [Hat]; · iexact Hat
  isplitl [Hr]; · iexact Hr
  iapply (Entails.of_eq ?_) $$ Hp
  rw [Rd_duties]
  exact bigSep_congr fun d _ => Rd_payload X W c x r d

/-- The barrier signal to the right neighbour, or to the left. -/
theorem rule_sig (c : Dev nD) (r : Bool) (os : List Op) (k : PR F PUnit) (Q : sProp 𝕄) :
    iprop(Ctx X W K Ks ∗ owesA c (.sig r :: os) ∗ dutyTok ER (gcell (if r then rgt c else lft c) cBar) 0 (if r then 0 else 1) ∗ okBar c (!r))
      ⊢ iprop((owesA c os -∗ WP c k Q) -∗ WP c (run c (.sig r) >>= fun _ => k) Q) := by
  simp only [run, semSignalWord, Prog.lift, Prog.bind_op, Prog.bind_ret, Prog.pure_eq_ret]
  iintro ⟨#HC, HO, Ht, Hp⟩ Hk
  unfold owesA
  icases HO with ⟨%U, HO⟩
  iapply (Rounds.wp_signal 𝒱₀ ER (Rd X W) (c : Thread nD τ) none (dst := ((if r then rgt c else lft c : Dev nD) : Thread nD τ)) (sem := barS) (r := 0)
      (κ := K (if r then rgt c else lft c, cBar)) (d := if r then 0 else 1)
      (by rw [show (((if r then rgt c else lft c : Dev nD) : Thread nD τ), SemLoc.reg barS) = gcell (if r then rgt c else lft c) cBar from rfl, Rd_duties]; cases r <;> decide)
      (Rd_amount X W _ cBar _ _) 1 (owed c os) (owed_cons c (.sig r) os)) $$ [HO Ht Hp]
  · isplitr; · iapply (ctx_inv X W K Ks _ cBar); iexact HC
    isplitl [HO]; · iexact HO
    isplitl [Ht]; · iexact Ht
    isplitl [Hp]
    · iapply (Entails.of_eq ?_) $$ Hp
      refine Eq.trans ?_ (Rd_payload X W _ cBar 0 _).symm
      cases r
      · show okBar c true = okBar (rgt (lft c)) true; rw [rgt_lft]
      · show okBar c false = okBar (lft (rgt c)) false; rw [lft_rgt]
    iapply (ctx_zero X W K Ks _ cBar); iexact HC
  iintro HO
  iapply Hk
  iexists U; iexact HO

/-- The wait for both barrier signals. -/
theorem rule_bar (c : Dev nD) (os : List Op) (ho : after 1 os = true) (k : PR F PUnit) (Q : sProp 𝕄) :
    iprop(Ctx X W K Ks ∗ owesA c os ∗ cred (tallyAt (gcell c cBar) 1 2) ∗ atPos ER (gcell c cBar) 0 ∅ 0)
      ⊢ iprop(((owesA c os ∗ atPos ER (gcell c cBar) 1 ∅ 0 ∗ okBar (lft c) false ∗ okBar (rgt c) true) -∗ WP c k Q)
          -∗ WP c (run c .bar >>= fun _ => k) Q) := by
  simp only [run, semWaitWord, Prog.lift, Prog.bind_op, Prog.bind_ret, Prog.pure_eq_ret]
  iintro ⟨#HC, HO, Hcr, Hat⟩ Hk
  iapply (wait_rule X W K Ks c cBar 1 2 0 0 ∅ os _ (wpE_semWait_eq 𝒱₀ (c : Thread nD τ) none Set.univ) (by decide) (by decide) ho k Q) $$ [HO Hcr Hat]
  · isplitr; · iexact HC
    isplitl [Hcr]; · iexact Hcr
    isplitl [HO] <;> iassumption
  iintro ⟨HO, Hat, -, Hp⟩
  iapply Hk
  isplitl [HO]; · iexact HO
  isplitl [Hat]; · iexact Hat
  iapply (Entails.of_eq ?_) $$ Hp
  rw [show dutiesOf cBar 0 \ ∅ = insert 0 {1} by decide, bigSep_insert (by decide), bigSep_singleton]
  rfl

/-- The share of a slot that a hop lends to the transfer, and the slot it fills. -/
theorem rule_send (c : Dev nD) (l : Fin 8) (k : ℕ) (hk : k ≤ last l) (os : List Op) (kt : PR F PUnit) (Q : sProp 𝕄) :
    iprop(Ctx X W K Ks ∗ owesA c (.send l k :: os) ∗ owns (c : Thread nD τ) (slC l (sl k)) fullShare.left (val X W l k c)
        ∗ slotP (dst l c, l, sl (k + 1))
        ∗ dutyTok ER (gcell c (cSnd l (sl k))) (k / 3) 0 ∗ reached ER (gcell c (cSnd l (sl k))) (k / 3)
        ∗ dutyTok ER (gcell (dst l c) (cRcv l (sl (k + 1)))) (k / 3) 0 ∗ reached ER (gcell (dst l c) (cRcv l (sl (k + 1)))) (k / 3))
      ⊢ iprop(((cred (tallyAt (gcell c (cSnd l (sl k))) (labS l k) N) ∗ owesA c os) -∗ WP c kt Q)
          -∗ WP c (run c (.send l k) >>= fun _ => kt) Q) := by
  simp only [run, Prog.lift, Prog.bind_op, Prog.bind_ret, Prog.pure_eq_ret]
  have e1 : 3 * (k / 3) + k % 3 = k := by omega
  have e2 : 3 * (k / 3) + ((k + 1) % 3 + 2) % 3 = k := by omega
  unfold slotP slot owns owesA
  iintro ⟨#HC, ⟨%U, HO⟩, ⟨%f, %hf, Hs⟩, ⟨%g, Hd⟩, Ht1, Hr1, Ht2, Hr2⟩ Hk
  iapply (Rounds.wp_send_pointsTo 𝒱₀ ER (Rd X W) (c : Thread nD τ) none (c' := Dev.tc (dst l c)) (κ₁ := K (c, cSnd l (sl k))) (κ₂ := K (dst l c, cRcv l (sl (k + 1))))
      (src := slM l (sl k)) (dst := slM l (sl (k + 1))) (sS := .dma (at3 (sSem l) (sl k))) (sem := .dma (at3 (rSem l) (sl (k + 1)))) (q := fullShare.left)
      (fs := f) (fd := g) (r₁ := k / 3) (r₂ := k / 3) (d₁ := 0) (d₂ := 0)
      (by
        refine (Rd_duties X W c (cSnd l (sl k)) (k / 3)).symm ▸ ?_
        show 0 ∈ if 3 * (k / 3) + k % 3 ≤ last l then ({0} : Finset ℕ) else ∅
        rw [if_pos (by omega)]; exact Finset.mem_singleton_self _)
      (by
        refine (Rd_duties X W (dst l c) (cRcv l (sl (k + 1))) (k / 3)).symm ▸ ?_
        show 0 ∈ if 3 * (k / 3) + ((k + 1) % 3 + 2) % 3 ≤ last l then ({0} : Finset ℕ) else ∅
        rw [if_pos (by omega)]; exact Finset.mem_singleton_self _)
      (labS l k) (labS l k) N (N_eq l (sl (k + 1)) _) (Rd_amount X W c (cSnd l (sl k)) _ _) (Rd_amount X W (dst l c) (cRcv l (sl (k + 1))) _ _)
      (owed c os) (owed_cons c (.send l k) os) (W := U) ?_ ?_) $$ [HO Hs Hd Ht1 Hr1 Ht2 Hr2]
  · refine BIBase.Entails.trans ?_ (Entails.of_eq (Rd_payload X W c (cSnd l (sl k)) (k / 3) 0).symm)
    show _ ⊢ (owns (c : Thread nD τ) (slC l (sl k)) fullShare.left (val X W l (3 * (k / 3) + k % 3) c) : sProp 𝕄)
    rw [e1, slM_set]
    unfold owns
    iintro H
    iexists f
    isplitr; · ipureintro; exact hf
    iexact H
  · refine BIBase.Entails.trans ?_ (Entails.of_eq (Rd_payload X W (dst l c) (cRcv l (sl (k + 1))) (k / 3) 0).symm)
    show _ ⊢ (owns (dst l c : Thread nD τ) (slC l (sl (k + 1))) fullShare (val X W l (3 * (k / 3) + ((k + 1) % 3 + 2) % 3) (src l (dst l c))) : sProp 𝕄)
    rw [e2, src_dst, slM_set]
    unfold owns
    iintro H
    iexists _
    isplitr; swap; · iexact H
    ipureintro
    exact (slC_copy l (sl k) (sl (k + 1)) g f).trans hf
  · rw [slM_set, slM_set]
    isplitr; · iapply (ctx_inv X W K Ks c (cSnd l (sl k))); iexact HC
    isplitr; · iapply (ctx_inv X W K Ks (dst l c) (cRcv l (sl (k + 1)))); iexact HC
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hcr]; · iexact Hcr
  iexists U; iexact HO

/-- The wait for a hop's sending. -/
theorem rule_sent (c : Dev nD) (l : Fin 8) (k : ℕ) (hk : k ≤ last l) (os : List Op) (hw : labS l k ≤ 99) (ho : after (labS l k) os = true)
    (kt : PR F PUnit) (Q : sProp 𝕄) :
    iprop(Ctx X W K Ks ∗ owesA c os ∗ cred (tallyAt (gcell c (cSnd l (sl k))) (labS l k) N) ∗ atPos ER (gcell c (cSnd l (sl k))) (k / 3) ∅ 0)
      ⊢ iprop(((owesA c os ∗ atPos ER (gcell c (cSnd l (sl k))) (k / 3 + 1) ∅ 0 ∗ reached ER (gcell c (cSnd l (sl k))) (k / 3 + 1)
              ∗ owns (c : Thread nD τ) (slC l (sl k)) fullShare.left (val X W l k c)) -∗ WP c kt Q)
          -∗ WP c (run c (.sent l k) >>= fun _ => kt) Q) := by
  simp only [run, Prog.lift, Prog.bind_op, Prog.bind_ret, Prog.pure_eq_ret]
  have e1 : 3 * (k / 3) + k % 3 = k := by omega
  have hd : dutiesOf (cSnd l (sl k)) (k / 3) = {0} := by
    show (if 3 * (k / 3) + k % 3 ≤ last l then ({0} : Finset ℕ) else ∅) = _
    rw [if_pos (by omega)]
  iintro ⟨#HC, HO, Hcr, Hat⟩ Hk
  iapply (wait_rule X W K Ks c (cSnd l (sl k)) (labS l k) N (k / 3) 0 ∅ os _
    (by intro J; rw [wpE_waitDma2_eq 𝒱₀ (c : Thread nD τ) none Set.univ]; exact congrArg (fun n => waitSpec (c : Thread nD τ) Set.univ _ n J) (N_eq l (sl k) (at3 (sSem l) (sl k))))
    (by rw [hd]; show 0 + N = 1 * N; omega) hw ho kt Q) $$ [HO Hcr Hat]
  · isplitr; · iexact HC
    isplitl [Hcr]; · iexact Hcr
    isplitl [HO] <;> iassumption
  iintro ⟨HO, Hat, Hr, Hp⟩
  iapply Hk
  isplitl [HO]; · iexact HO
  isplitl [Hat]; · iexact Hat
  isplitl [Hr]; · iexact Hr
  iapply (Entails.of_eq ?_) $$ Hp
  rw [hd, Finset.sdiff_empty, bigSep_singleton]
  show (owns (c : Thread nD τ) (slC l (sl k)) fullShare.left (val X W l (3 * (k / 3) + k % 3) c) : sProp 𝕄) = _
  rw [e1]

/-- The wait for a hop's arrival. -/
theorem rule_recv (c : Dev nD) (l : Fin 8) (k : ℕ) (hk : k ≤ last l) (os : List Op) (hw : labS l k ≤ 99) (ho : after (labS l k) os = true)
    (kt : PR F PUnit) (Q : sProp 𝕄) :
    iprop(Ctx X W K Ks ∗ owesA c os ∗ cred (tallyAt (gcell c (cRcv l (sl (k + 1)))) (labS l k) N) ∗ atPos ER (gcell c (cRcv l (sl (k + 1)))) (k / 3) ∅ 0)
      ⊢ iprop(((owesA c os ∗ atPos ER (gcell c (cRcv l (sl (k + 1)))) (k / 3 + 1) ∅ 0 ∗ reached ER (gcell c (cRcv l (sl (k + 1)))) (k / 3 + 1)
              ∗ owns (c : Thread nD τ) (slC l (sl (k + 1))) fullShare (val X W l k (src l c))) -∗ WP c kt Q)
          -∗ WP c (run c (.recv l k) >>= fun _ => kt) Q) := by
  simp only [run, Prog.lift, Prog.bind_op, Prog.bind_ret, Prog.pure_eq_ret]
  have e1 : 3 * (k / 3) + ((k + 1) % 3 + 2) % 3 = k := by omega
  have hd : dutiesOf (cRcv l (sl (k + 1))) (k / 3) = {0} := by
    show (if 3 * (k / 3) + ((k + 1) % 3 + 2) % 3 ≤ last l then ({0} : Finset ℕ) else ∅) = _
    rw [if_pos (by omega)]
  iintro ⟨#HC, HO, Hcr, Hat⟩ Hk
  iapply (wait_rule X W K Ks c (cRcv l (sl (k + 1))) (labS l k) N (k / 3) 0 ∅ os _
    (by intro J; rw [wpE_waitDma2_eq 𝒱₀ (c : Thread nD τ) none Set.univ]; exact congrArg (fun n => waitSpec (c : Thread nD τ) Set.univ _ n J) (N_eq l (sl (k + 1)) (at3 (rSem l) (sl (k + 1)))))
    (by rw [hd]; show 0 + N = 1 * N; omega) hw ho kt Q) $$ [HO Hcr Hat]
  · isplitr; · iexact HC
    isplitl [Hcr]; · iexact Hcr
    isplitl [HO] <;> iassumption
  iintro ⟨HO, Hat, Hr, Hp⟩
  iapply Hk
  isplitl [HO]; · iexact HO
  isplitl [Hat]; · iexact Hat
  isplitl [Hr]; · iexact Hr
  iapply (Entails.of_eq ?_) $$ Hp
  rw [hd, Finset.sdiff_empty, bigSep_singleton]
  show (owns (c : Thread nD τ) (slC l (sl (k + 1))) fullShare (val X W l (3 * (k / 3) + ((k + 1) % 3 + 2) % 3) (src l c)) : sProp 𝕄) = _
  rw [e1]

/-- A credit to the neighbour behind. -/
theorem rule_grant (c : Dev nD) (l : Fin 8) (j : ℕ) (hj : j < last l - 1) (os : List Op) (kt : PR F PUnit) (Q : sProp 𝕄) :
    iprop(Ctx X W K Ks ∗ owesA c (.grant l j :: os) ∗ dutyTok ER (gcell (src l c) (cCrd l)) 0 j ∗ okTo c l (j + 3))
      ⊢ iprop((owesA c os -∗ WP c kt Q) -∗ WP c (run c (.grant l j) >>= fun _ => kt) Q) := by
  simp only [run, semSignalWord, Prog.lift, Prog.bind_op, Prog.bind_ret, Prog.pure_eq_ret]
  iintro ⟨#HC, HO, Ht, Hp⟩ Hk
  unfold owesA
  icases HO with ⟨%U, HO⟩
  iapply (Rounds.wp_signal 𝒱₀ ER (Rd X W) (c : Thread nD τ) none (dst := (src l c : Thread nD τ)) (sem := (kSem l).sem) (r := 0)
      (κ := K (src l c, cCrd l)) (d := j)
      (by rw [show ((src l c : Thread nD τ), SemLoc.reg (kSem l).sem) = gcell (src l c) (cCrd l) from rfl, Rd_duties]; exact Finset.mem_range.mpr hj)
      (Rd_amount X W _ (cCrd l) _ _) (labG l j) (owed c os) (owed_cons c (.grant l j) os)) $$ [HO Ht Hp]
  · isplitr; · iapply (ctx_inv X W K Ks _ (cCrd l)); iexact HC
    isplitl [HO]; · iexact HO
    isplitl [Ht]; · iexact Ht
    isplitl [Hp]
    · iapply (Entails.of_eq ?_) $$ Hp
      refine Eq.trans ?_ (Rd_payload X W _ (cCrd l) 0 _).symm
      show okTo c l (j + 3) = okTo (dst l (src l c)) l (j + 3)
      rw [dst_src]
    iapply (ctx_zero X W K Ks _ (cCrd l)); iexact HC
  iintro HO
  iapply Hk
  iexists U; iexact HO

/-- The credit cell after `i` waits: the credits counted so far, and what they told. -/
def crdPos (c : Dev nD) (l : Fin 8) (i : ℕ) : sProp 𝕄 :=
  if i < last l - 1 then
    iprop(∃ S : Finset ℕ, ⌜S ⊆ Finset.range (last l - 1)⌝ ∗ atPos ER (gcell c (cCrd l)) 0 S i ∗ bigSep S fun d => okTo (dst l c) l (d + 3))
  else atPos ER (gcell c (cCrd l)) 1 ∅ 0

/-- Among more than `i` numbers one is at least `i`. -/
theorem exists_ge {S : Finset ℕ} {i : ℕ} (h : i < S.card) : ∃ j ∈ S, i ≤ j := by
  by_contra hn
  push Not at hn
  have : S ⊆ Finset.range i := fun j hj => Finset.mem_range.mpr (hn j hj)
  have := Finset.card_le_card this
  rw [Finset.card_range] at this
  omega

/-- The `i`-th wait for a credit. -/
theorem rule_credit (c : Dev nD) (l : Fin 8) (i : ℕ) (hi : i < last l - 1) (os : List Op) (hw : labG l i ≤ 99) (ho : after (labG l i) os = true)
    (kt : PR F PUnit) (Q : sProp 𝕄) :
    iprop(Ctx X W K Ks ∗ owesA c os ∗ cred (tallyAt (gcell c (cCrd l)) (labG l i) 1) ∗ crdPos c l i)
      ⊢ iprop(((owesA c os ∗ crdPos c l (i + 1) ∗ okTo (dst l c) l (i + 3)) -∗ WP c kt Q)
          -∗ WP c (run c (.credit l) >>= fun _ => kt) Q) := by
  simp only [run, semWaitWord, Prog.lift, Prog.bind_op, Prog.bind_ret, Prog.pure_eq_ret]
  have hdut : dutiesOf (cCrd l) 0 = Finset.range (last l - 1) := rfl
  rw [show crdPos (F := F) c l i = iprop(∃ S : Finset ℕ, ⌜S ⊆ Finset.range (last l - 1)⌝ ∗ atPos ER (gcell c (cCrd l)) 0 S i ∗ bigSep S fun d => okTo (dst l c) l (d + 3)) from if_pos hi]
  iintro ⟨#HC, HO, Hcr, ⟨%S, %hS, Hat, #HS⟩⟩ Hk
  by_cases hl : i + 1 < last l - 1
  · unfold owesA
    icases HO with ⟨%U, HO⟩
    iapply (Rounds.wp_wait 𝒱₀ ER (Rd X W) (c : Thread nD τ) none (κ := K (c, cCrd l)) (wpE_semWait_eq 𝒱₀ (c : Thread nD τ) none Set.univ) (Set.mem_univ _)
        (cr := Finsupp.single (labG l i) 1) (O := owed c os) (W := U) {(enc (cCrd l), labG l i)} (R := 0) (m := i) (T := S)
        (by rw [Util.total_single]; rfl) (image_single_subset _ _ _)) $$ [HO Hcr Hat]
    · isplitr; · iapply (ctx_inv X W K Ks _ (cCrd l)); iexact HC
      isplitl [Hcr]; · iexact Hcr
      isplitl [HO]; · iexact HO
      isplitr; · iapply (ctx_may X W K Ks c _ (labG l i) os hw ho); iexact HC
      iexact Hat
    iintro %S' ⟨%hS', HO, Hat, Hp⟩
    ihave #Hp' : (bigSep (S' \ S) fun d => okTo (dst l c) l (d + 3)) $$ [Hp]
    · iapply (Entails.of_eq ?_) $$ Hp
      exact bigSep_congr fun d _ => Rd_payload X W c (cCrd l) 0 d
    have h1 : S' ⊆ Finset.range (last l - 1) := by rw [← hdut, ← Rd_duties X W c (cCrd l) 0]; exact hS'.2.1
    have h2 := hS'.2.2
    rw [show ((c : Thread nD τ), SemLoc.reg (kSem l).sem) = gcell c (cCrd l) from rfl, Rd_expect, Rd_duties, hdut, Finset.card_sdiff_of_subset h1, Finset.card_range] at h2
    have h3 : i < S'.card := by
      have := Finset.card_le_card h1
      rw [Finset.card_range] at this
      have h4 : (1#32 : BitVec 32).toNat = 1 := rfl
      have h5 : amountOf (cCrd l) = 1 := rfl
      rw [h4, h5] at h2
      omega
    obtain ⟨j, hj, hij⟩ := exists_ge h3
    ihave #Hall : (bigSep S' fun d => okTo (dst l c) l (d + 3)) $$ []
    · rw [bs_union _ hS'.1]
      isplitr; · iexact HS
      iexact Hp'
    iapply Hk
    isplitl [HO]; · iexists _; iexact HO
    isplitl [Hat]
    · rw [show crdPos (F := F) c l (i + 1) = iprop(∃ S : Finset ℕ, ⌜S ⊆ Finset.range (last l - 1)⌝ ∗ atPos ER (gcell c (cCrd l)) 0 S (i + 1) ∗ bigSep S fun d => okTo (dst l c) l (d + 3)) from if_pos hl]
      iexists S'
      isplitr; · ipureintro; exact h1
      isplitl [Hat]; · iexact Hat
      iexact Hall
    iapply (okTo_le (dst l c) l (show i + 3 ≤ j + 3 by omega))
    iapply (bs_elim (Φ := fun d => okTo (dst l c) l (d + 3)) hj) $$ Hall
  · iapply (wait_rule X W K Ks c (cCrd l) (labG l i) 1 0 i S os _ (wpE_semWait_eq 𝒱₀ (c : Thread nD τ) none Set.univ)
      (by rw [hdut, Finset.card_range]; show i + 1 = (last l - 1) * 1; omega) hw ho kt Q) $$ [HO Hcr Hat]
    · isplitr; · iexact HC
      isplitl [Hcr]; · iexact Hcr
      isplitl [HO] <;> iassumption
    iintro ⟨HO, Hat, -, Hp⟩
    ihave #Hp' : (bigSep (Finset.range (last l - 1) \ S) fun d => okTo (dst l c) l (d + 3)) $$ [Hp]
    · rw [hdut]; iexact Hp
    ihave #Hall : (bigSep (Finset.range (last l - 1)) fun d => okTo (dst l c) l (d + 3)) $$ []
    · rw [bs_union _ hS]
      isplitr; · iexact HS
      iexact Hp'
    iapply Hk
    isplitl [HO]; · iexact HO
    isplitl [Hat]
    · rw [show crdPos (F := F) c l (i + 1) = atPos ER (gcell c (cCrd l)) 1 ∅ 0 from if_neg hl]
      iexact Hat
    iapply (bs_elim (Φ := fun d => okTo (dst l c) l (d + 3)) (Finset.mem_range.mpr hi)) $$ Hall

end Rules

end Cert.Ring

end
-- ==== Proof.Lane.lean ====
/-
# A lane's state

What a device holds of one lane between two steps, by how many hops it has sent, seen sent, granted and received, how
many credits it has counted, how many hops it knows to be awaited ahead, and what each slot holds; and one theorem for
each kind of step that moves a lane on.
-/
module

public import proofs.«01_k».proof.Proof.Rules

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

/-- One member of a family taken out, to be put back changed. -/
theorem bs_upd {I : Type} [Fintype I] [DecidableEq I] (i : I) (Φ Ψ : I → sProp 𝕄) (h : ∀ j, j ≠ i → Φ j = Ψ j) :
    (bigSep Finset.univ Φ : sProp 𝕄) ⊢ iprop(Φ i ∗ (Ψ i -∗ bigSep Finset.univ Ψ)) := by
  have e1 : (bigSep Finset.univ Φ : sProp 𝕄) = iprop(Φ i ∗ bigSep (Finset.univ.erase i) Φ) := bigSep_univ_split i
  have e2 : (bigSep Finset.univ Ψ : sProp 𝕄) = iprop(Ψ i ∗ bigSep (Finset.univ.erase i) Ψ) := bigSep_univ_split i
  have e3 : (bigSep (Finset.univ.erase i) Φ : sProp 𝕄) = bigSep (Finset.univ.erase i) Ψ :=
    bigSep_congr fun j hj => h j (Finset.ne_of_mem_erase hj)
  rw [e1, e2, e3]
  iintro ⟨H1, H2⟩
  isplitl [H1]; · iexact H1
  iintro H
  isplitl [H] <;> iassumption

/-- The first member of a run, and the rest. -/
theorem bs_head {a b : ℕ} (h : a < b) (Φ : ℕ → sProp 𝕄) :
    (bigSep (Finset.Ico a b) Φ : sProp 𝕄) = iprop(Φ a ∗ bigSep (Finset.Ico (a + 1) b) Φ) := bigSep_Ico_succ_bot h Φ
theorem bs_nil (a : ℕ) (Φ : ℕ → sProp 𝕄) : (bigSep (Finset.Ico a a) Φ : sProp 𝕄) = iprop(emp) := by
  rw [Finset.Ico_self]; exact bigSep_empty
theorem bs_one (a : ℕ) (Φ : ℕ → sProp 𝕄) : (bigSep (Finset.Ico a (a + 1)) Φ : sProp 𝕄) = Φ a := bigSep_Ico_one a Φ

/-- What a slot holds: it is lent out; any contents; the chunk of hop `k`; that chunk, half of it lent to the transfer;
    the chunk that hop `k` brought, as it came. -/
inductive SlotSt
  | gone | any | val (k : ℕ) | half (k : ℕ) | raw (k : ℕ)
  deriving DecidableEq

def upd (st : Fin 3 → SlotSt) (s : Fin 3) (x : SlotSt) : Fin 3 → SlotSt := fun s' => if s' = s then x else st s'
theorem upd_self (st : Fin 3 → SlotSt) (s : Fin 3) (x : SlotSt) : upd st s x s = x := if_pos rfl
theorem upd_ne {st : Fin 3 → SlotSt} {s s' : Fin 3} {x : SlotSt} (h : s' ≠ s) : upd st s x s' = st s' := if_neg h

/-- How many of the first `k` hops leave from, and arrive in, slot `s`. -/
def cntS (s : Fin 3) (k : ℕ) : ℕ := (k + 2 - s.val) / 3
def cntR (s : Fin 3) (k : ℕ) : ℕ := (k + 2 - (s.val + 2) % 3) / 3

theorem cntS_at (k : ℕ) : cntS (sl k) k = k / 3 := by show (k + 2 - k % 3) / 3 = _; omega
theorem cntS_succ (k : ℕ) : cntS (sl k) (k + 1) = k / 3 + 1 := by show (k + 1 + 2 - k % 3) / 3 = _; omega
theorem cntS_ne {s : Fin 3} {k : ℕ} (h : s ≠ sl k) : cntS s (k + 1) = cntS s k := by
  have h1 : s.val ≠ k % 3 := fun e => h (Fin.ext e)
  have h2 := s.isLt
  unfold cntS; omega
theorem cntR_at (k : ℕ) : cntR (sl (k + 1)) k = k / 3 := by show (k + 2 - ((k + 1) % 3 + 2) % 3) / 3 = _; omega
theorem cntR_succ (k : ℕ) : cntR (sl (k + 1)) (k + 1) = k / 3 + 1 := by show (k + 1 + 2 - ((k + 1) % 3 + 2) % 3) / 3 = _; omega
theorem cntR_ne {s : Fin 3} {k : ℕ} (h : s ≠ sl (k + 1)) : cntR s (k + 1) = cntR s k := by
  have h1 : s.val ≠ (k + 1) % 3 := fun e => h (Fin.ext e)
  have h2 := s.isLt
  unfold cntR; omega
theorem sl_add3 (k : ℕ) : sl (k + 3) = sl k := Fin.ext (by show (k + 3) % 3 = k % 3; omega)
theorem cntR_prev (k : ℕ) : cntR (sl k) k = (k + 2) / 3 := by show (k + 2 - (k % 3 + 2) % 3) / 3 = _; omega

section Lane

variable (X : Dev nD → Vec F S2048x128 .bf16) (W : Dev nD → Vec F S128x2048 .bf16)
variable (K : Dev nD × Cell → ℕ) (Ks : Key → ℕ)

def slotRes (c : Dev nD) (l : Fin 8) (s : Fin 3) : SlotSt → sProp 𝕄
  | .gone => iprop(emp)
  | .any => slotP (c, l, s)
  | .val k => owns (c : Thread nD τ) (slC l s) fullShare (val X W l k c)
  | .half k => owns (c : Thread nD τ) (slC l s) fullShare.right (val X W l k c)
  | .raw k => owns (c : Thread nD τ) (slC l s) fullShare (val X W l k (src l c))

/-- A slot at known contents is a slot at any. -/
theorem slot_any (c : Dev nD) (l : Fin 8) (s : Fin 3) (v : Vec F S1x128x512 .bf16) :
    (owns (c : Thread nD τ) (slC l s) fullShare v : sProp 𝕄) ⊢ slotP (c, l, s) := by
  unfold owns slotP slot
  iintro ⟨%f, -, H⟩
  iexists f
  iexact H

/-- What hop `k` needs of its two cells and of the slot ahead. -/
def sndTok (c : Dev nD) (l : Fin 8) (k : ℕ) : sProp 𝕄 :=
  iprop(dutyTok ER (gcell c (cSnd l (sl k))) (k / 3) 0
    ∗ dutyTok ER (gcell (dst l c) (cRcv l (sl (k + 1)))) (k / 3) 0
    ∗ writeTok EK (dst l c, l, sl (k + 1)) (k / 3 + 1))

def laneR (c : Dev nD) (l : Fin 8) (kS kD kG kR kC kO : ℕ) (st : Fin 3 → SlotSt) : sProp 𝕄 :=
  iprop((bigSep (Finset.Ico kS (last l + 1)) fun k => sndTok c l k)
    ∗ (bigSep (Finset.Ico kG (last l - 1)) fun j => dutyTok ER (gcell (src l c) (cCrd l)) 0 j)
    ∗ (bigSep (Finset.Ico kR (last l + 1)) fun k => cred (tallyAt (gcell c (cRcv l (sl (k + 1)))) (labS l k) N))
    ∗ (bigSep (Finset.Ico kC (last l - 1)) fun i => cred (tallyAt (gcell c (cCrd l)) (labG l i) 1))
    ∗ (bigSep (Finset.Ico kD kS) fun k => cred (tallyAt (gcell c (cSnd l (sl k))) (labS l k) N))
    ∗ (bigSep Finset.univ fun s : Fin 3 => atPos ER (gcell c (cSnd l s)) (cntS s kD) ∅ 0)
    ∗ (bigSep Finset.univ fun s : Fin 3 => reached ER (gcell c (cSnd l s)) (cntS s kD))
    ∗ (bigSep Finset.univ fun s : Fin 3 => atPos ER (gcell c (cRcv l s)) (cntR s kR) ∅ 0)
    ∗ (bigSep Finset.univ fun s : Fin 3 => reached ER (gcell c (cRcv l s)) (cntR s kR))
    ∗ crdPos c l kC
    ∗ (bigSep Finset.univ fun s : Fin 3 => readerAt EK (c, l, s) (cntR s (kG + 2)))
    ∗ okTo c l (kG + 2)
    ∗ okTo (dst l c) l kO
    ∗ (bigSep Finset.univ fun s : Fin 3 => slotRes X W c l s (st s)))

/-- One slot of a lane, to be put back changed. -/
theorem lane_slot (c : Dev nD) (l : Fin 8) (kS kD kG kR kC kO : ℕ) (st : Fin 3 → SlotSt) (s : Fin 3) (x : SlotSt) :
    laneR X W c l kS kD kG kR kC kO st
      ⊢ iprop(slotRes X W c l s (st s) ∗ (slotRes X W c l s x -∗ laneR X W c l kS kD kG kR kC kO (upd st s x))) := by
  unfold laneR
  iintro ⟨H1, H2, H3, H4, H5, H6, H7, H8, H9, H10, H11, H12, H13, Hs⟩
  ihave H := (bs_upd s (fun s => slotRes X W c l s (st s)) (fun s' => slotRes X W c l s' (upd st s x s'))
    (fun j hj => by rw [upd_ne hj])) $$ Hs
  icases H with ⟨H, Hback⟩
  isplitl [H]; · iexact H
  iintro H
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply Hback
  rw [upd_self]
  iexact H

/-- Sending hop `k`. -/
theorem lane_send (c : Dev nD) (l : Fin 8) (k kG kR kC kO : ℕ) (st : Fin 3 → SlotSt) (hk : k ≤ last l) (hO : k < kO) (hst : st (sl k) = .val k)
    (os : List Op) (kt : PR F PUnit) (Q : sProp 𝕄) :
    iprop(Ctx X W K Ks ∗ owesA c (.send l k :: os) ∗ laneR X W c l k k kG kR kC kO st)
      ⊢ iprop(((owesA c os ∗ laneR X W c l (k + 1) k kG kR kC kO (upd st (sl k) (.half k))) -∗ WP c kt Q)
          -∗ WP c (run c (.send l k) >>= fun _ => kt) Q) := by
  unfold laneR
  rw [bs_head (show k < last l + 1 by omega), bs_nil]
  iintro ⟨#HC, HO, ⟨H1, H1r⟩, H2, H3, H4, -, H6, #H7, H8, H9, H10, H11, H12, #H13, Hs⟩ Hk
  ihave H := (bs_upd (sl k) (fun s => slotRes X W c l s (st s)) (fun s' => slotRes X W c l s' (upd st (sl k) (.half k) s'))
    (fun j hj => by rw [upd_ne hj])) $$ Hs
  icases H with ⟨H, Hback⟩
  rw [hst, upd_self]
  unfold slotRes sndTok
  icases H1 with ⟨Ht1, Ht2, Hw⟩
  ihave H := (owns_halves (c : Thread nD τ) (slC l (sl k)) fullShare (val X W l k c)).1 $$ H
  icases H with ⟨Hl, Hr⟩
  ihave #Hok := (okTo_elim (dst l c) l hO) $$ H13
  unfold okHop
  icases Hok with ⟨#Hrel, #Hrch⟩
  imod (Release.slot_take EK (Set.mem_univ _) (k / 3 + 1) (ι := Ks (dst l c, l, sl (k + 1))) (S := slotP (dst l c, l, sl (k + 1)))) $$ [Hw] with Hd
  · isplitr; · iapply (ctx_slot X W K Ks _); iexact HC
    isplitr; · iexact Hrel
    iexact Hw
  ihave #Hr1 := (bs_elim (Φ := fun s : Fin 3 => reached ER (gcell c (cSnd l s)) (cntS s k)) (Finset.mem_univ (sl k))) $$ H7
  iapply (rule_send X W K Ks c l k hk os kt Q) $$ [HO Hl Hd Ht1 Ht2]
  · isplitr; · iexact HC
    isplitl [HO]; · iexact HO
    isplitl [Hl]; · iexact Hl
    isplitl [Hd]; · iexact Hd
    isplitl [Ht1]; · iexact Ht1
    isplitr; · rw [← cntS_at k]; iexact Hr1
    isplitl [Ht2]; · iexact Ht2
    iexact Hrch
  iintro ⟨Hcr, HO⟩
  iapply Hk
  isplitl [HO]; · iexact HO
  isplitl [H1r]; · iexact H1r
  isplitl [H2]; · iexact H2
  isplitl [H3]; · iexact H3
  isplitl [H4]; · iexact H4
  isplitl [Hcr]; · rw [bs_one]; iexact Hcr
  isplitl [H6]; · iexact H6
  isplitr; · iexact H7
  isplitl [H8]; · iexact H8
  isplitl [H9]; · iexact H9
  isplitl [H10]; · iexact H10
  isplitl [H11]; · iexact H11
  isplitl [H12]; · iexact H12
  isplitr; · iexact H13
  iapply Hback
  iexact Hr

/-- Seeing hop `k` sent: its half of the slot comes back. -/
theorem lane_sent (c : Dev nD) (l : Fin 8) (k kG kR kC kO : ℕ) (st : Fin 3 → SlotSt) (hk : k ≤ last l) (hst : st (sl k) = .half k)
    (os : List Op) (hw : labS l k ≤ 99) (ho : after (labS l k) os = true) (kt : PR F PUnit) (Q : sProp 𝕄) :
    iprop(Ctx X W K Ks ∗ owesA c os ∗ laneR X W c l (k + 1) k kG kR kC kO st)
      ⊢ iprop(((owesA c os ∗ laneR X W c l (k + 1) (k + 1) kG kR kC kO (upd st (sl k) .any)) -∗ WP c kt Q)
          -∗ WP c (run c (.sent l k) >>= fun _ => kt) Q) := by
  unfold laneR
  rw [bs_one, bs_nil]
  iintro ⟨#HC, HO, H1, H2, H3, H4, H5, H6, H7, H8, H9, H10, H11, H12, H13, Hs⟩ Hk
  ihave H := (bs_upd (sl k) (fun s => slotRes X W c l s (st s)) (fun s' => slotRes X W c l s' (upd st (sl k) .any s'))
    (fun j hj => by rw [upd_ne hj])) $$ Hs
  icases H with ⟨H, Hback⟩
  ihave H6 := (bs_upd (sl k) (fun s : Fin 3 => (atPos ER (gcell c (cSnd l s)) (cntS s k) ∅ 0 : sProp 𝕄)) (fun s => atPos ER (gcell c (cSnd l s)) (cntS s (k + 1)) ∅ 0)
    (fun j hj => by rw [cntS_ne hj])) $$ H6
  icases H6 with ⟨H6, H6b⟩
  ihave H7 := (bs_upd (sl k) (fun s : Fin 3 => (reached ER (gcell c (cSnd l s)) (cntS s k) : sProp 𝕄)) (fun s => reached ER (gcell c (cSnd l s)) (cntS s (k + 1)))
    (fun j hj => by rw [cntS_ne hj])) $$ H7
  icases H7 with ⟨-, H7b⟩
  rw [hst, upd_self, cntS_at, cntS_succ]
  unfold slotRes
  iapply (rule_sent X W K Ks c l k hk os hw ho kt Q) $$ [HO H5 H6]
  · isplitr; · iexact HC
    isplitl [HO]; · iexact HO
    isplitl [H5]; · iexact H5
    iexact H6
  iintro ⟨HO, Hat, Hre, Hl⟩
  iapply Hk
  isplitl [HO]; · iexact HO
  isplitl [H1]; · iexact H1
  isplitl [H2]; · iexact H2
  isplitl [H3]; · iexact H3
  isplitl [H4]; · iexact H4
  isplitr; · iempintro
  isplitl [H6b Hat]; · iapply H6b; iexact Hat
  isplitl [H7b Hre]; · iapply H7b; iexact Hre
  isplitl [H8]; · iexact H8
  isplitl [H9]; · iexact H9
  isplitl [H10]; · iexact H10
  isplitl [H11]; · iexact H11
  isplitl [H12]; · iexact H12
  isplitl [H13]; · iexact H13
  iapply Hback
  iapply (slot_any c l (sl k) (val X W l k c))
  iapply (owns_halves (c : Thread nD τ) (slC l (sl k)) fullShare (val X W l k c)).2
  isplitl [Hl]; · iexact Hl
  iexact H

/-- Granting credit `k`: the slot is released for hop `k + 2`. -/
theorem lane_grant (c : Dev nD) (l : Fin 8) (kS kD k kC kO : ℕ) (st : Fin 3 → SlotSt) (hk : k < last l - 1) (hst : st (sl k) = .any)
    (os : List Op) (kt : PR F PUnit) (Q : sProp 𝕄) :
    iprop(Ctx X W K Ks ∗ owesA c (.grant l k :: os) ∗ laneR X W c l kS kD k k kC kO st)
      ⊢ iprop(((owesA c os ∗ laneR X W c l kS kD (k + 1) k kC kO (upd st (sl k) .gone)) -∗ WP c kt Q)
          -∗ WP c (run c (.grant l k) >>= fun _ => kt) Q) := by
  unfold laneR
  have e0 : sl (k + 2 + 1) = sl k := sl_add3 k
  rw [bs_head (show k < last l - 1 by omega)]
  iintro ⟨#HC, HO, H1, ⟨H2, H2r⟩, H3, H4, H5, H6, H7, H8, #H9, H10, H11, #H12, H13, Hs⟩ Hk
  ihave H := (bs_upd (sl k) (fun s => slotRes X W c l s (st s)) (fun s' => slotRes X W c l s' (upd st (sl k) .gone s'))
    (fun j hj => by rw [upd_ne hj])) $$ Hs
  icases H with ⟨H, Hback⟩
  ihave H11 := (bs_upd (sl k) (fun s : Fin 3 => (readerAt EK (c, l, s) (cntR s (k + 2)) : sProp 𝕄)) (fun s => readerAt EK (c, l, s) (cntR s (k + 2 + 1)))
    (fun j hj => by rw [cntR_ne (k := k + 2) (by rw [e0]; exact hj)])) $$ H11
  icases H11 with ⟨H11, H11b⟩
  have e1 : cntR (sl k) (k + 2) = (k + 2) / 3 := by have := cntR_at (k + 2); rw [e0] at this; exact this
  have e2 : cntR (sl k) (k + 2 + 1) = (k + 2) / 3 + 1 := by have := cntR_succ (k + 2); rw [e0] at this; exact this
  rw [hst, upd_self, e1, e2]
  unfold slotRes
  ihave #Hr := (bs_elim (Φ := fun s : Fin 3 => reached ER (gcell c (cRcv l s)) (cntR s k)) (Finset.mem_univ (sl k))) $$ H9
  rw [cntR_prev]
  imod (Release.slot_release EK (Set.mem_univ _) (slotP_false (c, l, sl k)) ((k + 2) / 3) (ι := Ks (c, l, sl k))) $$ [H H11] with ⟨H11, #Hrel⟩
  · isplitr; · iapply (ctx_slot X W K Ks _); iexact HC
    isplitl [H11]; · iexact H11
    iexact H
  ihave #Hok : (okTo c l (k + 3)) $$ []
  · iapply (Entails.of_eq (okTo_succ (F := F) c l (k + 2)).symm)
    isplitr
    · unfold okHop
      rw [e0]
      isplitr; · iexact Hrel
      iexact Hr
    iexact H12
  iapply (rule_grant X W K Ks c l k hk os kt Q) $$ [HO H2]
  · isplitr; · iexact HC
    isplitl [HO]; · iexact HO
    isplitl [H2]; · iexact H2
    iexact Hok
  iintro HO
  iapply Hk
  isplitl [HO]; · iexact HO
  isplitl [H1]; · iexact H1
  isplitl [H2r]; · iexact H2r
  isplitl [H3]; · iexact H3
  isplitl [H4]; · iexact H4
  isplitl [H5]; · iexact H5
  isplitl [H6]; · iexact H6
  isplitl [H7]; · iexact H7
  isplitl [H8]; · iexact H8
  isplitr; · iexact H9
  isplitl [H10]; · iexact H10
  isplitl [H11 H11b]; · iapply H11b; iexact H11
  isplitr; · iexact Hok
  isplitl [H13]; · iexact H13
  iapply Hback
  iempintro

/-- Receiving hop `k`. -/
theorem lane_recv (c : Dev nD) (l : Fin 8) (kS kD kG k kC kO : ℕ) (st : Fin 3 → SlotSt) (hk : k ≤ last l) (hst : st (sl (k + 1)) = .gone)
    (os : List Op) (hw : labS l k ≤ 99) (ho : after (labS l k) os = true) (kt : PR F PUnit) (Q : sProp 𝕄) :
    iprop(Ctx X W K Ks ∗ owesA c os ∗ laneR X W c l kS kD kG k kC kO st)
      ⊢ iprop(((owesA c os ∗ laneR X W c l kS kD kG (k + 1) kC kO (upd st (sl (k + 1)) (.raw k))) -∗ WP c kt Q)
          -∗ WP c (run c (.recv l k) >>= fun _ => kt) Q) := by
  unfold laneR
  rw [bs_head (show k < last l + 1 by omega)]
  iintro ⟨#HC, HO, H1, H2, ⟨H3, H3r⟩, H4, H5, H6, H7, H8, H9, H10, H11, H12, H13, Hs⟩ Hk
  ihave H := (bs_upd (sl (k + 1)) (fun s => slotRes X W c l s (st s)) (fun s' => slotRes X W c l s' (upd st (sl (k + 1)) (.raw k) s'))
    (fun j hj => by rw [upd_ne hj])) $$ Hs
  icases H with ⟨-, Hback⟩
  ihave H8 := (bs_upd (sl (k + 1)) (fun s : Fin 3 => (atPos ER (gcell c (cRcv l s)) (cntR s k) ∅ 0 : sProp 𝕄)) (fun s => atPos ER (gcell c (cRcv l s)) (cntR s (k + 1)) ∅ 0)
    (fun j hj => by rw [cntR_ne hj])) $$ H8
  icases H8 with ⟨H8, H8b⟩
  ihave H9 := (bs_upd (sl (k + 1)) (fun s : Fin 3 => (reached ER (gcell c (cRcv l s)) (cntR s k) : sProp 𝕄)) (fun s => reached ER (gcell c (cRcv l s)) (cntR s (k + 1)))
    (fun j hj => by rw [cntR_ne hj])) $$ H9
  icases H9 with ⟨-, H9b⟩
  rw [upd_self, cntR_at, cntR_succ]
  iapply (rule_recv X W K Ks c l k hk os hw ho kt Q) $$ [HO H3 H8]
  · isplitr; · iexact HC
    isplitl [HO]; · iexact HO
    isplitl [H3]; · iexact H3
    iexact H8
  iintro ⟨HO, Hat, Hre, Hl⟩
  iapply Hk
  isplitl [HO]; · iexact HO
  isplitl [H1]; · iexact H1
  isplitl [H2]; · iexact H2
  isplitl [H3r]; · iexact H3r
  isplitl [H4]; · iexact H4
  isplitl [H5]; · iexact H5
  isplitl [H6]; · iexact H6
  isplitl [H7]; · iexact H7
  isplitl [H8b Hat]; · iapply H8b; iexact Hat
  isplitl [H9b Hre]; · iapply H9b; iexact Hre
  isplitl [H10]; · iexact H10
  isplitl [H11]; · iexact H11
  isplitl [H12]; · iexact H12
  isplitl [H13]; · iexact H13
  iapply Hback
  unfold slotRes
  iexact Hl

/-- Counting credit `i`: hop `i + 2` is awaited ahead. -/
theorem lane_credit (c : Dev nD) (l : Fin 8) (kS kD kG kR i kO : ℕ) (st : Fin 3 → SlotSt) (hi : i < last l - 1)
    (os : List Op) (hw : labG l i ≤ 99) (ho : after (labG l i) os = true) (kt : PR F PUnit) (Q : sProp 𝕄) :
    iprop(Ctx X W K Ks ∗ owesA c os ∗ laneR X W c l kS kD kG kR i kO st)
      ⊢ iprop(((owesA c os ∗ laneR X W c l kS kD kG kR (i + 1) (i + 3) st) -∗ WP c kt Q)
          -∗ WP c (run c (.credit l) >>= fun _ => kt) Q) := by
  unfold laneR
  rw [bs_head (show i < last l - 1 by omega)]
  iintro ⟨#HC, HO, H1, H2, H3, ⟨H4, H4r⟩, H5, H6, H7, H8, H9, H10, H11, H12, -, Hs⟩ Hk
  iapply (rule_credit X W K Ks c l i hi os hw ho kt Q) $$ [HO H4 H10]
  · isplitr; · iexact HC
    isplitl [HO]; · iexact HO
    isplitl [H4]; · iexact H4
    iexact H10
  iintro ⟨HO, H10, H13⟩
  iapply Hk
  isplitl [HO]; · iexact HO
  isplitl [H1]; · iexact H1
  isplitl [H2]; · iexact H2
  isplitl [H3]; · iexact H3
  isplitl [H4r]; · iexact H4r
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hs

end Lane

end Cert.Ring

end
-- ==== Proof.Steps.lean ====
/-
# The steps as a program over counters

What the steps do to a device's state, without contents: which hops each lane has sent, seen sent, granted and
received, what each slot holds, and what each block of the result holds. A step's guard says when the step is allowed;
`accepted` is that the body's steps are all allowed in their order, and where they end.
-/
module

public import proofs.«01_k».proof.Proof.Lane

@[expose] public section

noncomputable section

namespace Cert.Ring

open Cert.KernelIdeal Cert.KernelIdeal.Gen
open Idealize.ShloMosaic Idealize.ShloMosaic.TcCoe

/-- A lane's counters and slots. -/
structure LS where
  kS : ℕ
  kD : ℕ
  kG : ℕ
  kR : ℕ
  kC : ℕ
  kO : ℕ
  s0 : SlotSt
  s1 : SlotSt
  s2 : SlotSt

def LS.get (a : LS) (s : Fin 3) : SlotSt := if s.val = 0 then a.s0 else if s.val = 1 then a.s1 else a.s2
def LS.set (a : LS) (s : Fin 3) (x : SlotSt) : LS :=
  ⟨a.kS, a.kD, a.kG, a.kR, a.kC, a.kO, if s.val = 0 then x else a.s0, if s.val = 1 then x else a.s1, if s.val = 2 then x else a.s2⟩

theorem LS.get_set (a : LS) (s : Fin 3) (x : SlotSt) : (a.set s x).get = upd a.get s x := by
  funext s'
  unfold LS.get LS.set upd
  fin_cases s <;> fin_cases s' <;> rfl

/-- What a block of the result holds: unknown, the local product, the finished block, the finished block received for
    hop `k` of lane `l`. -/
inductive OS
  | U | A | C | S (l : Fin 8) (k : ℕ)
  deriving DecidableEq

def lkO : List (ℕ × OS) → ℕ → OS
  | [], _ => .U
  | (n, x) :: t, m => if m = n then x else lkO t m
def lkL : List (Fin 8 × LS) → Fin 8 → LS
  | [], _ => ⟨0, 0, 0, 0, 0, 0, .any, .gone, .gone⟩
  | (n, x) :: t, m => if m = n then x else lkL t m

structure St where
  bar : ℕ
  lanes : List (Fin 8 × LS)
  out : List (ℕ × OS)

def St.lane (A : St) (l : Fin 8) : LS := lkL A.lanes l
def St.setL (A : St) (l : Fin 8) (a : LS) : St := ⟨A.bar, (l, a) :: A.lanes, A.out⟩
def ix (o : ℕ) (j : Fin 4) : ℕ := 4 * (o % 16) + j.val
def St.blk (A : St) (o : ℕ) (j : Fin 4) : OS := lkO A.out (ix o j)
def St.setO (A : St) (o : ℕ) (j : Fin 4) (x : OS) : St := ⟨A.bar, A.lanes, (ix o j, x) :: A.out⟩

/-- Whether hop `k` of the lane is known to be awaited ahead. -/
def aheadOk (A : St) (l : Fin 8) (k : ℕ) : Prop := if k < 2 then A.bar = 3 else k < (A.lane l).kO
instance (A : St) (l : Fin 8) (k : ℕ) : Decidable (aheadOk A l k) := by unfold aheadOk; infer_instance

/-- One step, `os` being the steps after it. -/
def step (os : List Op) (A : St) : Op → Option St
  | .mm o => if o < 17 then some ((((A.setO o 0 .A).setO o 1 .A).setO o 2 .A).setO o 3 .A) else none
  | .sig r => if A.bar = (if r then 1 else 0) then some ⟨A.bar + 1, A.lanes, A.out⟩ else none
  | .bar => if A.bar = 2 ∧ after 1 os = true then some ⟨3, A.lanes, A.out⟩ else none
  | .seed l => if seedO l < 17 ∧ (A.lane l).get 0 = .any ∧ A.blk (seedO l) (col l) = .A then some (A.setL l ((A.lane l).set 0 (.val 0))) else none
  | .credit l =>
      let a := A.lane l
      if a.kC < last l - 1 ∧ labG l a.kC ≤ 99 ∧ after (labG l a.kC) os = true then
        some (A.setL l ⟨a.kS, a.kD, a.kG, a.kR, a.kC + 1, a.kC + 3, a.s0, a.s1, a.s2⟩) else none
  | .send l k =>
      let a := A.lane l
      if a.kS = k ∧ a.kD = k ∧ k ≤ last l ∧ aheadOk A l k ∧ a.get (sl k) = .val k then
        some (A.setL l ((⟨k + 1, a.kD, a.kG, a.kR, a.kC, if k < 2 then 2 else a.kO, a.s0, a.s1, a.s2⟩ : LS).set (sl k) (.half k))) else none
  | .sent l k =>
      let a := A.lane l
      if a.kS = k + 1 ∧ a.kD = k ∧ k ≤ last l ∧ a.get (sl k) = .half k ∧ labS l k ≤ 99 ∧ after (labS l k) os = true then
        some (A.setL l ((⟨a.kS, k + 1, a.kG, a.kR, a.kC, a.kO, a.s0, a.s1, a.s2⟩ : LS).set (sl k) .any)) else none
  | .grant l k =>
      let a := A.lane l
      if a.kG = k ∧ a.kR = k ∧ k < last l - 1 ∧ a.get (sl k) = .any then
        some (A.setL l ((⟨a.kS, a.kD, k + 1, a.kR, a.kC, a.kO, a.s0, a.s1, a.s2⟩ : LS).set (sl k) .gone)) else none
  | .recv l k =>
      let a := A.lane l
      if a.kR = k ∧ k ≤ last l ∧ a.get (sl (k + 1)) = .gone ∧ labS l k ≤ 99 ∧ after (labS l k) os = true then
        some (A.setL l ((⟨a.kS, a.kD, a.kG, k + 1, a.kC, a.kO, a.s0, a.s1, a.s2⟩ : LS).set (sl (k + 1)) (if far l ≤ k then .val (k + 1) else .raw k))) else none
  | .add l k =>
      let a := A.lane l
      if k + 1 < far l ∧ hopO l k < 17 ∧ a.get (sl (k + 1)) = .raw k ∧ A.blk (hopO l k) (col l) = .A then
        some (A.setL l (a.set (sl (k + 1)) (.val (k + 1)))) else none
  | .comb a b =>
      if a = longL (col a) ∧ b = shortL (col a) ∧ (A.lane a).get 2 = .raw 7 ∧ (A.lane b).get 1 = .raw 6 ∧ A.blk 8 (col a) = .A then
        some (((A.setL a ((A.lane a).set 2 (.val 8))).setL b ((A.lane b).set 1 (.val 7))).setO 8 (col a) .C) else none
  | .store l k =>
      if hopO l k < 17 ∧ ((A.lane l).get (sl (k + 1)) = .half (k + 1) ∨ (A.lane l).get (sl (k + 1)) = .val (k + 1)) then
        some (A.setO (hopO l k) (col l) (.S l (k + 1))) else none

def exec : List Op → St → Option St
  | [], A => some A
  | o :: os, A => (step os A o).elim none (exec os)

def init : St := ⟨0, [], []⟩

/-- The block that a device's result holds at last at relative row block `o`. -/
def want (o : ℕ) (j : Fin 4) : OS :=
  if o = 8 then .C
  else if o = 0 then .S (longL j) 16
  else if o < 8 then (if j.val < 2 then .S (longL j) (16 - o) else .S (shortL j) (15 - o))
  else (if j.val < 2 then .S (shortL j) (o - 1) else .S (longL j) o)

/-- A slot whose contents the device has whole. -/
def SlotSt.own : SlotSt → Bool
  | .any => true
  | .val _ => true
  | _ => false

def endsWell (A : St) : Bool :=
  A.bar == 3
  && (List.finRange 8).all (fun l => let a := A.lane l
      a.kS == last l + 1 && a.kD == last l + 1 && a.kG == last l - 1 && a.kR == last l + 1 && a.kC == last l - 1 && a.s0.own && a.s1.own && a.s2.own)
  && (List.range 16).all (fun o => (List.finRange 4).all fun j => decide (A.blk o j = want o j))

/-- Every step of the body is allowed where it stands, and the body ends with every hop sent, seen sent and received,
    every credit granted and counted, and every block of the result in place. -/
theorem accepted : (exec ops init).elim false endsWell = true := by decide +kernel

end Cert.Ring

end
-- ==== Proof.Local.lean ====
/-
# The steps a device takes alone

Loads and stores of the slots and of the result, by what they read and leave, and the product of a row block.
-/
module

public import proofs.«01_k».proof.Proof.Lane

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

/-- The result's buffer at contents `f`; the two operands' buffers. -/
def outR (c : Dev nD) (f : S2048x2048.Idx → Elt F .f32) : sProp 𝕄 := iprop(((c : Thread nD τ).loc cc0_stg2_0) ↦{fullShare} f)
def xR (c : Dev nD) (f : Vec F S2048x128 .bf16) : sProp 𝕄 := iprop(((c : Thread nD τ).loc cc0_stg0_0) ↦{fullShare} f)
def wR (c : Dev nD) (f : Vec F S128x2048 .bf16) : sProp 𝕄 := iprop(((c : Thread nD τ).loc cc0_stg1_0) ↦{fullShare} f)

theorem ld_out (c : Dev nD) (j : Fin 4) (o : ℕ) (ho : o < 17) (f : S2048x2048.Idx → Elt F .f32) (k : Vec F S128x512 .f32 → PR F PUnit) (Q : sProp 𝕄) :
    outR c f ⊢ iprop((outR c f -∗ WP c (k (blk f (rowF c o) j)) Q) -∗ WP c (ldO j c o >>= k) Q) := by
  unfold ldO outR
  rw [dif_pos ho, ← read_oR j c o ho f]
  simp only [Prog.lift, Prog.bind_op, Prog.bind_ret]
  exact wp_load 𝒱₀ (c : Thread nD τ) none Set.univ (m := oM) (Finset.subset_univ _)

theorem st_out (c : Dev nD) (j : Fin 4) (o : ℕ) (ho : o < 17) (f : S2048x2048.Idx → Elt F .f32) (v : FVec F S128x512 .f32) (k : PR F PUnit) (Q : sProp 𝕄) :
    outR c f ⊢ iprop((∀ f', (⌜∀ r j', blk f' r j' = if r = rowF c o ∧ j' = j then v else blk f r j'⌝ ∗ outR c f') -∗ WP c k Q)
      -∗ WP c (stO j c o v >>= fun _ => k) Q) := by
  unfold stO outR
  rw [dif_pos ho]
  simp only [Prog.lift, Prog.bind_op, Prog.bind_ret]
  iintro H Hk
  iapply (wp_store 𝒱₀ (c : Thread nD τ) none Set.univ (m := oM) (r := oR j c o ho) (Mk := Finset.univ) (Finset.subset_univ _)) $$ H
  iintro H
  iapply Hk
  isplitr; swap; · iexact H
  ipureintro
  exact fun r j' => blk_write j c o ho f v r j'

theorem ld_slot (c : Dev nD) (l : Fin 8) (s : Fin 3) (q : PosShare TreeShare) (v : Vec F S1x128x512 .bf16) (k : Vec F S1x128x512 .bf16 → PR F PUnit) (Q : sProp 𝕄) :
    (owns (c : Thread nD τ) (slC l s) q v : sProp 𝕄)
      ⊢ iprop((owns (c : Thread nD τ) (slC l s) q v -∗ WP c (k v) Q) -∗ WP c (ldC l s >>= k) Q) := by
  unfold ldC owns
  simp only [Prog.lift, Prog.bind_op, Prog.bind_ret]
  iintro ⟨%f, %hf, H⟩ Hk
  iapply (wp_load_rect 𝒱₀ (c : Thread nD τ) none Set.univ (m := cM l) (r := slR s) (f := f) (Finset.Subset.refl _)) $$ H
  iintro H
  rw [show ((cM l).access (slR s)).read (Elt F) f = v from hf]
  iapply Hk
  iexists f
  isplitr; · ipureintro; exact hf
  iexact H

theorem ld_slot_any (c : Dev nD) (l : Fin 8) (s : Fin 3) (k : PR F PUnit) (Q : sProp 𝕄) :
    (slotP (c, l, s) : sProp 𝕄) ⊢ iprop((slotP (c, l, s) -∗ WP c k Q) -∗ WP c (ldC l s >>= fun _ => k) Q) := by
  unfold ldC slotP slot
  simp only [Prog.lift, Prog.bind_op, Prog.bind_ret]
  iintro ⟨%f, H⟩ Hk
  iapply (wp_load_rect 𝒱₀ (c : Thread nD τ) none Set.univ (m := cM l) (r := slR s) (f := f) (Finset.Subset.refl _)) $$ H
  iintro H
  iapply Hk
  iexists f
  iexact H

theorem st_slot (c : Dev nD) (l : Fin 8) (s : Fin 3) (v : FVec F S1x128x512 .bf16) (k : PR F PUnit) (Q : sProp 𝕄) :
    (slotP (c, l, s) : sProp 𝕄)
      ⊢ iprop((owns (c : Thread nD τ) (slC l s) fullShare v -∗ WP c k Q) -∗ WP c (stC l s v >>= fun _ => k) Q) := by
  unfold stC slotP slot owns
  simp only [Prog.lift, Prog.bind_op, Prog.bind_ret]
  iintro ⟨%f, H⟩ Hk
  iapply (wp_store 𝒱₀ (c : Thread nD τ) none Set.univ (m := cM l) (r := slR s) (Mk := Finset.univ) (S := (slC l s).view.set) (f := f) (Finset.Subset.refl _)) $$ H
  iintro H
  iapply Hk
  iexists _
  isplitr; swap; · iexact H
  ipureintro
  exact slC_write l s f v

/-- Row block `o` of the local product goes into the result. -/
theorem mm_rule (c : Dev nD) (o : ℕ) (ho : o < 17) (X : Dev nD → Vec F S2048x128 .bf16) (W : Dev nD → Vec F S128x2048 .bf16)
    (f : S2048x2048.Idx → Elt F .f32) (k : PR F PUnit) (Q : sProp 𝕄) :
    iprop(xR c (X c) ∗ wR c (W c) ∗ outR c f)
      ⊢ iprop((∀ f', (⌜∀ r j', blk f' r j' = if r = rowF c o then acc X W c o j' else blk f r j'⌝ ∗ xR c (X c) ∗ wR c (W c) ∗ outR c f') -∗ WP c k Q)
        -∗ WP c (run c (.mm o) >>= fun _ => k) Q) := by
  unfold xR wR outR
  simp only [run]
  rw [dif_pos ho]
  simp only [Prog.lift, Prog.bind_op, Prog.bind_ret]
  iintro ⟨Hx, Hw, H⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ H; iintro H
  iapply (wp_store 𝒱₀ (c : Thread nD τ) none Set.univ (m := oM) (r := oW c o ho) (Mk := Finset.univ) (Finset.subset_univ _)) $$ H; iintro H
  iapply Hk
  isplitr; swap
  · isplitl [Hx]; · iexact Hx
    isplitl [Hw]; · iexact Hw
    iexact H
  ipureintro
  intro r j'
  by_cases hr : r = rowF c o
  · subst hr
    rw [if_pos rfl]
    refine (blk_write_row_in c o ho f _ j').trans ?_
    have hx : xM.view.readAt (Elt F) (Rect.unit (s := S2048x128) (k0_off1 c (offW o)) S128x128.size (off1_inb c o ho)).toLoadRect (X c)
        = fun i' => X c (xIx (rowF c o) i') := by
      funext i'
      refine congrArg (X c) (?_ : (Rect.unit (s := S2048x128) (k0_off1 c (offW o)) S128x128.size (off1_inb c o ho)).emb i' = _)
      funext a; apply Fin.ext
      rw [Rect.emb_apply]
      refine (congrArg (· + _) (congrFun (off1_eq c o ho) a)).trans ?_
      fin_cases a
      · show 128 * row c o + 1 * (i' 0).val = 128 * row c o + (i' 0).val; omega
      · show 0 + 1 * (i' 1).val = (i' 1).val; omega
    have hw : wM.view.readAt (Elt F) (Rect.unit (s := S128x2048) ![0, 0] S128x2048.size inb_S128x2048_S128x2048_0_0).toLoadRect (W c) = W c := by
      funext i'
      refine congrArg (W c) (?_ : (Rect.unit (s := S128x2048) ![0, 0] S128x2048.size inb_S128x2048_S128x2048_0_0).emb i' = _)
      funext a; apply Fin.ext
      rw [Rect.emb_apply]
      fin_cases a
      · show 0 + 1 * (i' 0).val = (i' 0).val; omega
      · show 0 + 1 * (i' 1).val = (i' 1).val; omega
    rw [hx, hw]
    rfl
  · rw [if_neg hr]
    exact blk_write_row_out c o ho f _ r j' hr

end Cert.Ring

end
-- ==== Proof.Body.lean ====
/-
# The body

A device's state holds what the counters of `Steps` say; every step that `step` allows keeps that; so the body runs
from the state at launch to the state in which every block of the result is in place.
-/
module

public import proofs.«01_k».proof.Proof.Steps
public import proofs.«01_k».proof.Proof.Local

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

section Body

variable (X : Dev nD → Vec F S2048x128 .bf16) (W : Dev nD → Vec F S128x2048 .bf16)
variable (K : Dev nD × Cell → ℕ) (Ks : Key → ℕ)

/-- A block holds what its status says. -/
def okB (c : Dev nD) (o : ℕ) (j : Fin 4) (v : Vec F S128x512 .f32) : OS → Prop
  | .U => True
  | .A => v = acc X W c o j
  | .C => v = fin X W j c
  | .S l k => v = wideV (val X W l k c)

def OutOK (c : Dev nD) (A : St) (f : S2048x2048.Idx → Elt F .f32) : Prop :=
  ∀ o, o < 16 → ∀ j : Fin 4, okB X W c o j (blk f (rowF c o) j) (A.blk o j)

theorem ix_inj {o o' : ℕ} {j j' : Fin 4} (h : ix o j = ix o' j') : o % 16 = o' % 16 ∧ j = j' := by
  unfold ix at h
  have := j.isLt; have := j'.isLt
  exact ⟨by omega, Fin.ext (by omega)⟩

theorem blk_setO (A : St) (o o' : ℕ) (j j' : Fin 4) (x : OS) :
    (A.setO o j x).blk o' j' = if ix o' j' = ix o j then x else A.blk o' j' := rfl

theorem acc_mod (c : Dev nD) (o : ℕ) (j : Fin 4) : acc X W c (o % 16) j = acc X W c o j := by unfold acc; rw [rowF_mod]

theorem out_at {c : Dev nD} {A : St} {f : S2048x2048.Idx → Elt F .f32} (h : OutOK X W c A f) (o : ℕ) (j : Fin 4) (hA : A.blk o j = .A) :
    blk f (rowF c o) j = acc X W c o j := by
  have h1 := h (o % 16) (Nat.mod_lt _ (by decide)) j
  rw [show A.blk (o % 16) j = .A by rw [← hA]; unfold St.blk ix; rw [Nat.mod_mod], rowF_mod] at h1
  exact h1.trans (acc_mod X W c o j)

/-- A block stored at relative row block `o` and column block `j`. -/
theorem out_set {c : Dev nD} {A : St} {f f' : S2048x2048.Idx → Elt F .f32} (h : OutOK X W c A f) (o : ℕ) (j : Fin 4) (v : Vec F S128x512 .f32) (x : OS)
    (hf : ∀ r j', blk f' r j' = if r = rowF c o ∧ j' = j then v else blk f r j') (hx : okB X W c (o % 16) j v x) : OutOK X W c (A.setO o j x) f' := by
  intro o' ho' j'
  rw [blk_setO, hf]
  by_cases hj : ix o' j' = ix o j
  · obtain ⟨h1, rfl⟩ := ix_inj hj
    have h2 : o' = o % 16 := by omega
    subst h2
    rw [if_pos hj, if_pos ⟨rowF_mod c o, rfl⟩]
    exact hx
  · rw [if_neg hj, if_neg]
    · exact h o' ho' j'
    · rintro ⟨h1, rfl⟩
      refine hj ?_
      rw [← rowF_mod c o] at h1
      have := rowF_inj ho' (Nat.mod_lt _ (by decide)) h1
      unfold ix
      omega

/-- A row block of products stored at relative row block `o`. -/
theorem out_mm {c : Dev nD} {A : St} {f f' : S2048x2048.Idx → Elt F .f32} (h : OutOK X W c A f) (o : ℕ)
    (hf : ∀ r j', blk f' r j' = if r = rowF c o then acc X W c o j' else blk f r j') :
    OutOK X W c ((((A.setO o 0 .A).setO o 1 .A).setO o 2 .A).setO o 3 .A) f' := by
  intro o' ho' j'
  rw [hf]
  by_cases ho : o' = o % 16
  · subst ho
    rw [if_pos (rowF_mod c o)]
    have : ((((A.setO o 0 .A).setO o 1 .A).setO o 2 .A).setO o 3 .A).blk (o % 16) j' = .A := by
      have hi : ∀ i : Fin 4, ix (o % 16) i = ix o i := fun i => by unfold ix; rw [Nat.mod_mod]
      simp only [blk_setO, hi]
      fin_cases j' <;> simp [ix]
    rw [this]
    exact (acc_mod X W c o j').symm
  · rw [if_neg fun h1 => ho (rowF_inj ho' (Nat.mod_lt _ (by decide)) (h1.trans (rowF_mod c o).symm))]
    have : ((((A.setO o 0 .A).setO o 1 .A).setO o 2 .A).setO o 3 .A).blk o' j' = A.blk o' j' := by
      have hi : ∀ i : Fin 4, ix o' j' ≠ ix o i := fun i e => ho (by have := (ix_inj e).1; omega)
      simp only [blk_setO, if_neg (hi _)]
    rw [this]
    exact h o' ho' j'

/-- The barrier: the signals still to send, the wait still to come, and what is known for it. -/
def barRes (c : Dev nD) (n : ℕ) : sProp 𝕄 :=
  if n = 0 then iprop(dutyTok ER (gcell (lft c) cBar) 0 1 ∗ dutyTok ER (gcell (rgt c) cBar) 0 0 ∗ okBar c true ∗ okBar c false
      ∗ cred (tallyAt (gcell c cBar) 1 2) ∗ atPos ER (gcell c cBar) 0 ∅ 0)
  else if n = 1 then iprop(dutyTok ER (gcell (rgt c) cBar) 0 0 ∗ okBar c false
      ∗ cred (tallyAt (gcell c cBar) 1 2) ∗ atPos ER (gcell c cBar) 0 ∅ 0)
  else if n = 2 then iprop(cred (tallyAt (gcell c cBar) 1 2) ∗ atPos ER (gcell c cBar) 0 ∅ 0)
  else iprop(atPos ER (gcell c cBar) 1 ∅ 0 ∗ okBar (lft c) false ∗ okBar (rgt c) true)

def laneRes (c : Dev nD) (l : Fin 8) (a : LS) : sProp 𝕄 := laneR X W c l a.kS a.kD a.kG a.kR a.kC a.kO a.get

/-- What device `c` holds in state `A`. -/
def stRes (c : Dev nD) (A : St) : sProp 𝕄 :=
  iprop(barRes c A.bar ∗ (bigSep Finset.univ fun l : Fin 8 => laneRes X W c l (A.lane l)) ∗ xR c (X c) ∗ wR c (W c)
    ∗ ∃ f, ⌜OutOK X W c A f⌝ ∗ outR c f)

/-- A lane taken out, to be put back changed. -/
theorem take_lane (c : Dev nD) (A : St) (l : Fin 8) (a : LS) :
    (bigSep Finset.univ fun l : Fin 8 => laneRes X W c l (A.lane l))
      ⊢ iprop(laneRes X W c l (A.lane l) ∗ (laneRes X W c l a -∗ bigSep Finset.univ fun l' : Fin 8 => laneRes X W c l' ((A.setL l a).lane l'))) := by
  have h := bs_upd l (fun l => laneRes X W c l (A.lane l)) (fun l' => laneRes X W c l' ((A.setL l a).lane l'))
    (fun j hj => by show _ = laneRes X W c j (if j = l then a else A.lane j); rw [if_neg hj])
  rw [show (A.setL l a).lane l = a from if_pos rfl] at h
  exact h

theorem owesA_skip (c : Dev nD) (o : Op) (os : List Op) (h : owe c o = 0) : (owesA c (o :: os) : sProp 𝕄) = owesA c os := by
  unfold owesA; rw [owed_cons, h, add_zero]

/-- The steps of a lane alone, lifted to the whole state. -/
theorem lift_lane (c : Dev nD) (A : St) (l : Fin 8) (a : LS) (P P' : sProp 𝕄) (p k : PR F PUnit) (Q : sProp 𝕄)
    (h : iprop(Ctx X W K Ks ∗ P ∗ laneRes X W c l (A.lane l)) ⊢ iprop(((P' ∗ laneRes X W c l a) -∗ WP c k Q) -∗ WP c p Q)) :
    iprop(Ctx X W K Ks ∗ P ∗ stRes X W c A) ⊢ iprop(((P' ∗ stRes X W c (A.setL l a)) -∗ WP c k Q) -∗ WP c p Q) := by
  unfold stRes
  iintro ⟨HC, HP, HB, HL, HX, HW, HO⟩ Hk
  ihave HL := (take_lane X W c A l a) $$ HL
  icases HL with ⟨HL, Hb⟩
  iapply h $$ [HC HP HL]
  · isplitl [HC]; · iexact HC
    isplitl [HP] <;> iassumption
  iintro ⟨HP, HL⟩
  iapply Hk
  isplitl [HP]; · iexact HP
  isplitl [HB]; · iexact HB
  isplitl [HL Hb]; · iapply Hb; iexact HL
  isplitl [HX]; · iexact HX
  isplitl [HW]; · iexact HW
  iexact HO

/-- Once the barrier is passed, the first two hops of every lane are awaited ahead. -/
theorem bar_lane (c : Dev nD) (l : Fin 8) : (barRes c 3 : sProp 𝕄) ⊢ iprop(barRes c 3 ∗ okTo (dst l c) l 2) := by
  unfold barRes
  rw [if_neg (by decide), if_neg (by decide), if_neg (by decide)]
  iintro ⟨H, #H1, #H2⟩
  isplitl [H]
  · isplitl [H]; · iexact H
    isplitr; · iexact H1
    iexact H2
  by_cases hl : toR l = true
  · rw [show dst l c = rgt c from if_pos hl]
    unfold okBar
    iapply (bs_elim (Φ := fun l : Fin 8 => okTo (rgt c) l 2) (Finset.mem_filter.mpr ⟨Finset.mem_univ l, hl⟩)) $$ H2
  · rw [show dst l c = lft c from if_neg hl]
    unfold okBar
    iapply (bs_elim (Φ := fun l : Fin 8 => okTo (lft c) l 2) (Finset.mem_filter.mpr ⟨Finset.mem_univ l, Bool.eq_false_iff.mpr hl⟩)) $$ H1

/-- A lane told of more hops awaited ahead. -/
theorem lane_ahead (c : Dev nD) (l : Fin 8) (kS kD kG kR kC kO n : ℕ) (st : Fin 3 → SlotSt) :
    iprop(laneR X W c l kS kD kG kR kC kO st ∗ okTo (dst l c) l n) ⊢ laneR X W c l kS kD kG kR kC n st := by
  unfold laneR
  iintro ⟨⟨H1, H2, H3, H4, H5, H6, H7, H8, H9, H10, H11, H12, -, Hs⟩, H13⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hs

theorem far_long (j : Fin 4) : far (longL j) = 8 := by revert j; decide
theorem far_short (j : Fin 4) : far (shortL j) = 7 := by revert j; decide
theorem col_long (j : Fin 4) : col (longL j) = j := by revert j; decide
theorem col_short (j : Fin 4) : col (shortL j) = j := by revert j; decide
theorem long_ne_short (j : Fin 4) : shortL j ≠ longL j := by revert j; decide

/-- A lane with one slot changed. -/
theorem laneRes_set (c : Dev nD) (l : Fin 8) (a : LS) (s : Fin 3) (x : SlotSt) :
    laneRes X W c l (a.set s x) = laneR X W c l a.kS a.kD a.kG a.kR a.kC a.kO (upd a.get s x) := by
  unfold laneRes; rw [LS.get_set]; rfl

theorem step_mm (c : Dev nD) (o : ℕ) (os : List Op) (A : St) (ho : o < 17) (k : PR F PUnit) (Q : sProp 𝕄) :
    iprop(Ctx X W K Ks ∗ owesA c (.mm o :: os) ∗ stRes X W c A)
      ⊢ iprop(((owesA c os ∗ stRes X W c ((((A.setO o 0 .A).setO o 1 .A).setO o 2 .A).setO o 3 .A)) -∗ WP c k Q)
          -∗ WP c (run c (.mm o) >>= fun _ => k) Q) := by
  rw [owesA_skip c (.mm o) os rfl]
  unfold stRes
  iintro ⟨-, HO, HB, HL, HX, HW, ⟨%f, %hf, Hf⟩⟩ Hk
  iapply (mm_rule c o ho X W f k Q) $$ [HX HW Hf]
  · isplitl [HX]; · iexact HX
    isplitl [HW] <;> iassumption
  iintro %f' ⟨%hf', HX, HW, Hf⟩
  iapply Hk
  isplitl [HO]; · iexact HO
  isplitl [HB]; · iexact HB
  isplitl [HL]; · iexact HL
  isplitl [HX]; · iexact HX
  isplitl [HW]; · iexact HW
  iexists f'
  isplitr; · ipureintro; exact out_mm X W hf o hf'
  iexact Hf

theorem step_sig (c : Dev nD) (r : Bool) (os : List Op) (A : St) (hA : A.bar = if r then 1 else 0) (k : PR F PUnit) (Q : sProp 𝕄) :
    iprop(Ctx X W K Ks ∗ owesA c (.sig r :: os) ∗ stRes X W c A)
      ⊢ iprop(((owesA c os ∗ stRes X W c ⟨A.bar + 1, A.lanes, A.out⟩) -∗ WP c k Q)
          -∗ WP c (run c (.sig r) >>= fun _ => k) Q) := by
  unfold stRes
  rw [hA]
  cases r
  · show iprop(Ctx X W K Ks ∗ owesA c (.sig false :: os) ∗ (barRes c 0 ∗ _)) ⊢ iprop(((owesA c os ∗ (barRes c 1 ∗ _)) -∗ WP c k Q) -∗ WP c (run c (.sig false) >>= fun _ => k) Q)
    unfold barRes
    rw [if_pos rfl, if_neg (by decide), if_pos rfl]
    iintro ⟨HC, HO, ⟨Ht, Ht2, Hok, Hok2, Hc, Ha⟩, Hr⟩ Hk
    iapply (rule_sig X W K Ks c false os k Q) $$ [HC HO Ht Hok]
    · isplitl [HC]; · iexact HC
      isplitl [HO]; · iexact HO
      isplitl [Ht]; · iexact Ht
      iexact Hok
    iintro HO
    iapply Hk
    isplitl [HO]; · iexact HO
    isplitl [Ht2 Hok2 Hc Ha]
    · isplitl [Ht2]; · iexact Ht2
      isplitl [Hok2]; · iexact Hok2
      isplitl [Hc] <;> iassumption
    iexact Hr
  · show iprop(Ctx X W K Ks ∗ owesA c (.sig true :: os) ∗ (barRes c 1 ∗ _)) ⊢ iprop(((owesA c os ∗ (barRes c 2 ∗ _)) -∗ WP c k Q) -∗ WP c (run c (.sig true) >>= fun _ => k) Q)
    unfold barRes
    rw [if_neg (by decide), if_pos rfl, if_neg (by decide), if_neg (by decide), if_pos rfl]
    iintro ⟨HC, HO, ⟨Ht, Hok, Hc, Ha⟩, Hr⟩ Hk
    iapply (rule_sig X W K Ks c true os k Q) $$ [HC HO Ht Hok]
    · isplitl [HC]; · iexact HC
      isplitl [HO]; · iexact HO
      isplitl [Ht]; · iexact Ht
      iexact Hok
    iintro HO
    iapply Hk
    isplitl [HO]; · iexact HO
    isplitl [Hc Ha]
    · isplitl [Hc] <;> iassumption
    iexact Hr

theorem step_bar (c : Dev nD) (os : List Op) (A : St) (hA : A.bar = 2) (ho : after 1 os = true) (k : PR F PUnit) (Q : sProp 𝕄) :
    iprop(Ctx X W K Ks ∗ owesA c (.bar :: os) ∗ stRes X W c A)
      ⊢ iprop(((owesA c os ∗ stRes X W c ⟨3, A.lanes, A.out⟩) -∗ WP c k Q)
          -∗ WP c (run c .bar >>= fun _ => k) Q) := by
  rw [owesA_skip c .bar os rfl]
  unfold stRes
  rw [hA]
  show iprop(Ctx X W K Ks ∗ owesA c os ∗ (barRes c 2 ∗ _)) ⊢ iprop(((owesA c os ∗ (barRes c 3 ∗ _)) -∗ WP c k Q) -∗ WP c (run c .bar >>= fun _ => k) Q)
  unfold barRes
  rw [if_neg (by decide), if_neg (by decide), if_pos rfl, if_neg (by decide), if_neg (by decide), if_neg (by decide)]
  iintro ⟨HC, HO, ⟨Hc, Ha⟩, Hr⟩ Hk
  iapply (rule_bar X W K Ks c os ho k Q) $$ [HC HO Hc Ha]
  · isplitl [HC]; · iexact HC
    isplitl [HO]; · iexact HO
    isplitl [Hc] <;> iassumption
  iintro ⟨HO, Ha, H1, H2⟩
  iapply Hk
  isplitl [HO]; · iexact HO
  isplitl [Ha H1 H2]
  · isplitl [Ha]; · iexact Ha
    isplitl [H1] <;> iassumption
  iexact Hr

/-- A slot of a lane taken out, to be put back changed. -/
theorem take_slot (c : Dev nD) (A : St) (l : Fin 8) (s : Fin 3) (x y : SlotSt) (hs : (A.lane l).get s = y) :
    (bigSep Finset.univ fun l : Fin 8 => laneRes X W c l (A.lane l))
      ⊢ iprop(slotRes X W c l s y
        ∗ (slotRes X W c l s x -∗ bigSep Finset.univ fun l' : Fin 8 => laneRes X W c l' ((A.setL l ((A.lane l).set s x)).lane l'))) := by
  have h1 := take_lane X W c A l ((A.lane l).set s x)
  rw [laneRes_set] at h1
  have h2 : laneRes X W c l (A.lane l) ⊢ _ := lane_slot X W c l (A.lane l).kS (A.lane l).kD (A.lane l).kG (A.lane l).kR (A.lane l).kC (A.lane l).kO (A.lane l).get s x
  rw [hs] at h2
  iintro H
  ihave H := h1 $$ H
  icases H with ⟨H, Hb⟩
  ihave H := h2 $$ H
  icases H with ⟨H, Hb2⟩
  isplitl [H]; · iexact H
  iintro H
  iapply Hb
  iapply Hb2
  iexact H

/-- A slot of a lane lent, to be put back as it was. -/
theorem lend_slot (c : Dev nD) (A : St) (l : Fin 8) (s : Fin 3) :
    (bigSep Finset.univ fun l : Fin 8 => laneRes X W c l (A.lane l))
      ⊢ iprop(slotRes X W c l s ((A.lane l).get s)
        ∗ (slotRes X W c l s ((A.lane l).get s) -∗ bigSep Finset.univ fun l : Fin 8 => laneRes X W c l (A.lane l))) := by
  have e : ∀ l', (A.setL l (A.lane l)).lane l' = A.lane l' := fun l' => by
    show (if l' = l then A.lane l else A.lane l') = _
    split
    · rename_i h; rw [h]
    · rfl
  have h1 := take_lane X W c A l (A.lane l)
  simp only [e] at h1
  have h2 : laneRes X W c l (A.lane l) ⊢ _ :=
    lane_slot X W c l (A.lane l).kS (A.lane l).kD (A.lane l).kG (A.lane l).kR (A.lane l).kC (A.lane l).kO (A.lane l).get s ((A.lane l).get s)
  rw [show upd (A.lane l).get s ((A.lane l).get s) = (A.lane l).get by
    funext s; unfold upd; split
    · rename_i h; rw [h]
    · rfl] at h2
  iintro H
  ihave H := h1 $$ H
  icases H with ⟨H, Hb⟩
  ihave H := h2 $$ H
  icases H with ⟨H, Hb2⟩
  isplitl [H]; · iexact H
  iintro H
  iapply Hb
  iapply (Entails.of_eq (show laneR X W c l (A.lane l).kS (A.lane l).kD (A.lane l).kG (A.lane l).kR (A.lane l).kC (A.lane l).kO (A.lane l).get = laneRes X W c l (A.lane l) from rfl))
  iapply Hb2
  iexact H

theorem step_seed (c : Dev nD) (l : Fin 8) (os : List Op) (A : St) (ho : seedO l < 17) (hs : (A.lane l).get 0 = .any) (hb : A.blk (seedO l) (col l) = .A)
    (k : PR F PUnit) (Q : sProp 𝕄) :
    iprop(Ctx X W K Ks ∗ owesA c (.seed l :: os) ∗ stRes X W c A)
      ⊢ iprop(((owesA c os ∗ stRes X W c (A.setL l ((A.lane l).set 0 (.val 0)))) -∗ WP c k Q)
          -∗ WP c (run c (.seed l) >>= fun _ => k) Q) := by
  rw [owesA_skip c (.seed l) os rfl]
  have hv : ∀ f, OutOK X W c A f → seedV (blk f (rowF c (seedO l)) (col l)) = val X W l 0 c := fun f hf => by
    rw [val_zero, out_at X W hf (seedO l) (col l) hb]
  have ht := take_slot X W c A l 0 (.val 0) .any hs
  unfold slotRes at ht
  simp only [run, bind_assoc]
  unfold stRes
  iintro ⟨-, HO, HB, HL, HX, HW, ⟨%f, %hf, Hf⟩⟩ Hk
  ihave HL := ht $$ HL
  icases HL with ⟨Hs, Hb⟩
  iapply (ld_out c (col l) (seedO l) ho f _ Q) $$ Hf
  iintro Hf
  iapply (ld_slot_any c l 0 _ Q) $$ Hs
  iintro Hs
  iapply (st_slot c l 0 _ _ Q) $$ Hs
  iintro Hs
  iapply Hk
  isplitl [HO]; · iexact HO
  isplitl [HB]; · iexact HB
  isplitl [Hb Hs]
  · iapply Hb
    iapply (Entails.of_eq (congrArg (fun v => owns (c : Thread nD τ) (slC l 0) fullShare v) (hv f hf))) $$ Hs
  isplitl [HX]; · iexact HX
  isplitl [HW]; · iexact HW
  iexists f
  isplitr; · ipureintro; exact hf
  iexact Hf

theorem step_add (c : Dev nD) (l : Fin 8) (n : ℕ) (os : List Op) (A : St) (hn : n + 1 < far l) (ho : hopO l n < 17) (hs : (A.lane l).get (sl (n + 1)) = .raw n)
    (hb : A.blk (hopO l n) (col l) = .A) (k : PR F PUnit) (Q : sProp 𝕄) :
    iprop(Ctx X W K Ks ∗ owesA c (.add l n :: os) ∗ stRes X W c A)
      ⊢ iprop(((owesA c os ∗ stRes X W c (A.setL l ((A.lane l).set (sl (n + 1)) (.val (n + 1))))) -∗ WP c k Q)
          -∗ WP c (run c (.add l n) >>= fun _ => k) Q) := by
  rw [owesA_skip c (.add l n) os rfl]
  have hv : ∀ f, OutOK X W c A f → addV (val X W l n (src l c)) (blk f (rowF c (hopO l n)) (col l)) = val X W l (n + 1) c := fun f hf => by
    rw [out_at X W hf (hopO l n) (col l) hb, val_add X W l n c hn]
  have ht := take_slot X W c A l (sl (n + 1)) (.val (n + 1)) (.raw n) hs
  unfold slotRes at ht
  simp only [run, bind_assoc]
  unfold stRes
  iintro ⟨-, HO, HB, HL, HX, HW, ⟨%f, %hf, Hf⟩⟩ Hk
  ihave HL := ht $$ HL
  icases HL with ⟨Hs, Hb⟩
  iapply (ld_slot c l (sl (n + 1)) fullShare _ _ Q) $$ Hs
  iintro Hs
  iapply (ld_out c (col l) (hopO l n) ho f _ Q) $$ Hf
  iintro Hf
  iapply (ld_slot c l (sl (n + 1)) fullShare _ _ Q) $$ Hs
  iintro Hs
  ihave Hs := (slot_any c l (sl (n + 1)) _) $$ Hs
  iapply (st_slot c l (sl (n + 1)) _ _ Q) $$ Hs
  iintro Hs
  iapply Hk
  isplitl [HO]; · iexact HO
  isplitl [HB]; · iexact HB
  isplitl [Hb Hs]
  · iapply Hb
    iapply (Entails.of_eq (congrArg (fun v => owns (c : Thread nD τ) (slC l (sl (n + 1))) fullShare v) (hv f hf))) $$ Hs
  isplitl [HX]; · iexact HX
  isplitl [HW]; · iexact HW
  iexists f
  isplitr; · ipureintro; exact hf
  iexact Hf

theorem step_store (c : Dev nD) (l : Fin 8) (n : ℕ) (os : List Op) (A : St) (ho : hopO l n < 17)
    (hs : (A.lane l).get (sl (n + 1)) = .half (n + 1) ∨ (A.lane l).get (sl (n + 1)) = .val (n + 1)) (k : PR F PUnit) (Q : sProp 𝕄) :
    iprop(Ctx X W K Ks ∗ owesA c (.store l n :: os) ∗ stRes X W c A)
      ⊢ iprop(((owesA c os ∗ stRes X W c (A.setO (hopO l n) (col l) (.S l (n + 1)))) -∗ WP c k Q)
          -∗ WP c (run c (.store l n) >>= fun _ => k) Q) := by
  rw [owesA_skip c (.store l n) os rfl]
  have hq : ∃ q, slotRes X W c l (sl (n + 1)) ((A.lane l).get (sl (n + 1))) = owns (c : Thread nD τ) (slC l (sl (n + 1))) q (val X W l (n + 1) c) := by
    rcases hs with h | h <;> rw [h] <;> exact ⟨_, rfl⟩
  obtain ⟨q, hq⟩ := hq
  have hl := lend_slot X W c A l (sl (n + 1))
  rw [hq] at hl
  simp only [run, bind_assoc]
  unfold stRes
  iintro ⟨-, HO, HB, HL, HX, HW, ⟨%f, %hf, Hf⟩⟩ Hk
  ihave HL := hl $$ HL
  icases HL with ⟨Hs, Hb⟩
  iapply (ld_slot c l (sl (n + 1)) q _ _ Q) $$ Hs
  iintro Hs
  iapply (ld_out c (col l) (hopO l n) ho f _ Q) $$ Hf
  iintro Hf
  iapply (st_out c (col l) (hopO l n) ho f _ _ Q) $$ Hf
  iintro %f' ⟨%hf', Hf⟩
  iapply Hk
  isplitl [HO]; · iexact HO
  isplitl [HB]; · iexact HB
  isplitl [Hb Hs]; · iapply Hb; iexact Hs
  isplitl [HX]; · iexact HX
  isplitl [HW]; · iexact HW
  iexists f'
  isplitr; · ipureintro; exact out_set X W hf (hopO l n) (col l) _ (.S l (n + 1)) hf' rfl
  iexact Hf

theorem step_comb (c : Dev nD) (j : Fin 4) (os : List Op) (A : St) (h1 : (A.lane (longL j)).get 2 = .raw 7) (h2 : (A.lane (shortL j)).get 1 = .raw 6)
    (hb : A.blk 8 j = .A) (k : PR F PUnit) (Q : sProp 𝕄) :
    iprop(Ctx X W K Ks ∗ owesA c (.comb (longL j) (shortL j) :: os) ∗ stRes X W c A)
      ⊢ iprop(((owesA c os ∗ stRes X W c (((A.setL (longL j) ((A.lane (longL j)).set 2 (.val 8))).setL (shortL j) ((A.lane (shortL j)).set 1 (.val 7))).setO 8 j .C)) -∗ WP c k Q)
          -∗ WP c (run c (.comb (longL j) (shortL j)) >>= fun _ => k) Q) := by
  rw [owesA_skip c (.comb (longL j) (shortL j)) os rfl]
  have e2 : (A.setL (longL j) ((A.lane (longL j)).set 2 (.val 8))).lane (shortL j) = A.lane (shortL j) := if_neg (long_ne_short j)
  have v1 : val X W (longL j) 7 (src (longL j) c) = part X W (longL j) 7 (src (longL j) c) := by unfold val; rw [if_pos (by rw [far_long]; decide)]
  have v2 : val X W (shortL j) 6 (src (shortL j) c) = part X W (shortL j) 6 (src (shortL j) c) := by unfold val; rw [if_pos (by rw [far_short]; decide)]
  have v3 : packV (fin X W j c) = val X W (longL j) 8 c := by have := val_far X W (longL j) c; rw [far_long, col_long] at this; exact this.symm
  have v4 : packV (fin X W j c) = val X W (shortL j) 7 c := by have := val_far X W (shortL j) c; rw [far_short, col_short] at this; exact this.symm
  have hv : ∀ f, OutOK X W c A f →
      actV (val X W (longL j) 7 (src (longL j) c)) (val X W (shortL j) 6 (src (shortL j) c)) (blk f (rowF c 8) j) = fin X W j c := fun f hf => by
    rw [out_at X W hf 8 j hb, v1, v2]; rfl
  have t1 := take_slot X W c A (longL j) 2 (.val 8) (.raw 7) h1
  unfold slotRes at t1
  have t2 := take_slot X W c (A.setL (longL j) ((A.lane (longL j)).set 2 (.val 8))) (shortL j) 1 (.val 7) (.raw 6) (by rw [e2]; exact h2)
  unfold slotRes at t2
  rw [e2] at t2
  have u1 := lend_slot X W c A (longL j) 2
  rw [h1] at u1
  unfold slotRes at u1
  have u2 := lend_slot X W c A (shortL j) 1
  rw [h2] at u2
  unfold slotRes at u2
  have hor : ∀ f f', OutOK X W c A f → (∀ r j', blk f' r j' = if r = rowF c 8 ∧ j' = j then actV (val X W (longL j) 7 (src (longL j) c)) (val X W (shortL j) 6 (src (shortL j) c)) (blk f (rowF c 8) j) else blk f r j') →
      OutOK X W c (((A.setL (longL j) ((A.lane (longL j)).set 2 (.val 8))).setL (shortL j) ((A.lane (shortL j)).set 1 (.val 7))).setO 8 j .C) f' := fun f f' hf hf' =>
    out_set X W (A := (A.setL (longL j) ((A.lane (longL j)).set 2 (.val 8))).setL (shortL j) ((A.lane (shortL j)).set 1 (.val 7))) hf 8 j _ .C hf' (hv f hf)
  simp only [run, bind_assoc, col_long]
  unfold stRes
  iintro ⟨-, HO, HB, HL, HX, HW, ⟨%f, %hf, Hf⟩⟩ Hk
  ihave HL := u1 $$ HL
  icases HL with ⟨Hs, Hb⟩
  iapply (ld_slot c (longL j) 2 fullShare _ _ Q) $$ Hs
  iintro Hs
  ihave HL := Hb $$ Hs
  ihave HL := u2 $$ HL
  icases HL with ⟨Hs, Hb⟩
  iapply (ld_slot c (shortL j) 1 fullShare _ _ Q) $$ Hs
  iintro Hs
  ihave HL := Hb $$ Hs
  iapply (ld_out c j 8 (by decide) f _ Q) $$ Hf
  iintro Hf
  iapply (ld_out c j 8 (by decide) f _ Q) $$ Hf
  iintro Hf
  iapply (st_out c j 8 (by decide) f _ _ Q) $$ Hf
  iintro %f' ⟨%hf', Hf⟩
  ihave HL := t1 $$ HL
  icases HL with ⟨Hs, Hb⟩
  iapply (ld_slot c (longL j) 2 fullShare _ _ Q) $$ Hs
  iintro Hs
  ihave Hs := (slot_any c (longL j) 2 _) $$ Hs
  iapply (st_slot c (longL j) 2 _ _ Q) $$ Hs
  iintro Hs
  ihave Hs := (Entails.of_eq (congrArg (fun v => owns (c : Thread nD τ) (slC (longL j) 2) fullShare v) ((congrArg packV (hv f hf)).trans v3))) $$ Hs
  ihave HL := Hb $$ Hs
  ihave HL := t2 $$ HL
  icases HL with ⟨Hs, Hb⟩
  iapply (ld_slot c (shortL j) 1 fullShare _ _ Q) $$ Hs
  iintro Hs
  ihave Hs := (slot_any c (shortL j) 1 _) $$ Hs
  iapply (st_slot c (shortL j) 1 _ _ Q) $$ Hs
  iintro Hs
  ihave Hs := (Entails.of_eq (congrArg (fun v => owns (c : Thread nD τ) (slC (shortL j) 1) fullShare v) ((congrArg packV (hv f hf)).trans v4))) $$ Hs
  ihave HL := Hb $$ Hs
  iapply Hk
  isplitl [HO]; · iexact HO
  isplitl [HB]; · iexact HB
  isplitl [HL]; · iexact HL
  isplitl [HX]; · iexact HX
  isplitl [HW]; · iexact HW
  iexists f'
  isplitr; · ipureintro; exact hor f f' hf hf'
  iexact Hf

/-- A lane with its counters and one slot changed: the state before and after a step of the lane alone. -/
theorem step_lane (c : Dev nD) (A : St) (l : Fin 8) (P P' : sProp 𝕄) (p k : PR F PUnit) (Q : sProp 𝕄) (kS kD kG kR kC kO : ℕ) (s : Fin 3) (x : SlotSt)
    (h : iprop(Ctx X W K Ks ∗ P ∗ laneR X W c l (A.lane l).kS (A.lane l).kD (A.lane l).kG (A.lane l).kR (A.lane l).kC (A.lane l).kO (A.lane l).get)
      ⊢ iprop(((P' ∗ laneR X W c l kS kD kG kR kC kO (upd (A.lane l).get s x)) -∗ WP c k Q) -∗ WP c p Q)) :
    iprop(Ctx X W K Ks ∗ P ∗ stRes X W c A)
      ⊢ iprop(((P' ∗ stRes X W c (A.setL l ((⟨kS, kD, kG, kR, kC, kO, (A.lane l).s0, (A.lane l).s1, (A.lane l).s2⟩ : LS).set s x))) -∗ WP c k Q) -∗ WP c p Q) := by
  refine lift_lane X W K Ks c A l _ P P' p k Q ?_
  rw [laneRes_set]
  exact h

theorem step_ok (c : Dev nD) (o : Op) (os : List Op) (A A' : St) (h : step os A o = some A') (k : PR F PUnit) (Q : sProp 𝕄) :
    iprop(Ctx X W K Ks ∗ owesA c (o :: os) ∗ stRes X W c A)
      ⊢ iprop(((owesA c os ∗ stRes X W c A') -∗ WP c k Q) -∗ WP c (run c o >>= fun _ => k) Q) := by
  cases o with
  | mm o =>
    simp only [step] at h
    split at h
    · rename_i ho; cases h; exact step_mm X W K Ks c o os A ho k Q
    · cases h
  | sig r =>
    simp only [step] at h
    by_cases ho : A.bar = if r then 1 else 0
    · rw [if_pos ho] at h; cases h; exact step_sig X W K Ks c r os A ho k Q
    · rw [if_neg ho] at h; cases h
  | bar =>
    simp only [step] at h
    split at h
    · rename_i ho; cases h; exact step_bar X W K Ks c os A ho.1 ho.2 k Q
    · cases h
  | seed l =>
    simp only [step] at h
    split at h
    · rename_i ho; cases h; exact step_seed X W K Ks c l os A ho.1 ho.2.1 ho.2.2 k Q
    · cases h
  | credit l =>
    simp only [step] at h
    split at h
    · rename_i ho; cases h
      rw [owesA_skip c (.credit l) os rfl]
      exact lift_lane X W K Ks c A l _ _ _ _ k Q (lane_credit X W K Ks c l _ _ _ _ _ _ _ ho.1 os ho.2.1 ho.2.2 k Q)
    · cases h
  | send l n =>
    simp only [step] at h
    split at h
    · rename_i ho; cases h
      obtain ⟨h1, h2, h3, h4, h5⟩ := ho
      have key : ∀ kO, n < kO → iprop(Ctx X W K Ks ∗ owesA c (.send l n :: os) ∗ laneR X W c l (A.lane l).kS (A.lane l).kD (A.lane l).kG (A.lane l).kR (A.lane l).kC kO (A.lane l).get)
          ⊢ iprop(((owesA c os ∗ laneR X W c l (n + 1) (A.lane l).kD (A.lane l).kG (A.lane l).kR (A.lane l).kC kO (upd (A.lane l).get (sl n) (.half n))) -∗ WP c k Q)
            -∗ WP c (run c (.send l n) >>= fun _ => k) Q) := fun kO hO => by
        rw [h1, h2]; exact lane_send X W K Ks c l n _ _ _ kO _ h3 hO h5 os k Q
      by_cases hn : n < 2
      · rw [if_pos hn]
        have hA : A.bar = 3 := by unfold aheadOk at h4; rwa [if_pos hn] at h4
        have hb : stRes X W c A ⊢ iprop(stRes X W c A ∗ okTo (dst l c) l 2) := by
          unfold stRes
          rw [hA]
          iintro ⟨HB, Hr⟩
          ihave HB := (bar_lane c l) $$ HB
          icases HB with ⟨HB, Ho⟩
          isplitr [Ho]
          · isplitl [HB] <;> iassumption
          iexact Ho
        iintro ⟨HC, HO, HS⟩ Hk
        ihave HS := hb $$ HS
        icases HS with ⟨HS, Ho⟩
        have hs := step_lane X W K Ks c A l iprop(owesA c (.send l n :: os) ∗ okTo (dst l c) l 2) (owesA c os) (run c (.send l n) >>= fun _ => k) k Q
          (n + 1) (A.lane l).kD (A.lane l).kG (A.lane l).kR (A.lane l).kC 2 (sl n) (.half n) (by
            iintro ⟨HC, ⟨HO, Ho⟩, HL⟩
            iapply (key 2 hn)
            isplitl [HC]; · iexact HC
            isplitl [HO]; · iexact HO
            iapply (lane_ahead X W c l _ _ _ _ _ (A.lane l).kO 2 _)
            isplitl [HL] <;> iassumption)
        iapply hs $$ [HC HO Ho HS]
        · isplitl [HC]; · iexact HC
          isplitr [HS]
          · isplitl [HO] <;> iassumption
          iexact HS
        iexact Hk
      · rw [if_neg hn]
        have hO : n < (A.lane l).kO := by unfold aheadOk at h4; rwa [if_neg hn] at h4
        exact step_lane X W K Ks c A l _ _ _ k Q _ _ _ _ _ _ _ _ (key _ hO)
    · cases h
  | sent l n =>
    simp only [step] at h
    split at h
    · rename_i ho; cases h
      obtain ⟨h1, h2, h3, h4, h5, h6⟩ := ho
      rw [owesA_skip c (.sent l n) os rfl]
      refine step_lane X W K Ks c A l _ _ _ k Q _ _ _ _ _ _ _ _ ?_
      rw [h1, h2]
      exact lane_sent X W K Ks c l n _ _ _ _ _ h3 h4 os h5 h6 k Q
    · cases h
  | grant l n =>
    simp only [step] at h
    split at h
    · rename_i ho; cases h
      obtain ⟨h1, h2, h3, h4⟩ := ho
      refine step_lane X W K Ks c A l _ _ _ k Q _ _ _ _ _ _ _ _ ?_
      rw [h1, h2]
      exact lane_grant X W K Ks c l _ _ n _ _ _ h3 h4 os k Q
    · cases h
  | recv l n =>
    simp only [step] at h
    split at h
    · rename_i ho; cases h
      obtain ⟨h1, h2, h3, h4, h5⟩ := ho
      rw [owesA_skip c (.recv l n) os rfl]
      refine step_lane X W K Ks c A l _ _ _ k Q _ _ _ _ _ _ _ _ ?_
      have e : (fun s' => slotRes X W c l s' (upd (A.lane l).get (sl (n + 1)) (if far l ≤ n then .val (n + 1) else .raw n) s'))
          = (fun s' => slotRes X W c l s' (upd (A.lane l).get (sl (n + 1)) (.raw n) s')) := by
        split
        · rename_i hf
          funext s'
          unfold upd
          split
          · exact congrArg (fun v => (owns (c : Thread nD τ) (slC l s') fullShare v : sProp 𝕄)) (val_pass X W l n c hf)
          · rfl
        · rfl
      have e2 := lane_recv X W K Ks c l (A.lane l).kS (A.lane l).kD (A.lane l).kG n (A.lane l).kC (A.lane l).kO (A.lane l).get h2 h3 os h4 h5 k Q
      rw [h1]
      unfold laneR at e2 ⊢
      rw [e]
      exact e2
    · cases h
  | add l n =>
    simp only [step] at h
    split at h
    · rename_i ho; cases h; exact step_add X W K Ks c l n os A ho.1 ho.2.1 ho.2.2.1 ho.2.2.2 k Q
    · cases h
  | comb a b =>
    simp only [step] at h
    split at h
    · rename_i ho; cases h
      obtain ⟨h1, h2, h3, h4, h5⟩ := ho
      have := step_comb X W K Ks c (col a) os A (h1 ▸ h3) (h2 ▸ h4) h5 k Q
      rwa [← h1, ← h2] at this
    · cases h
  | store l n =>
    simp only [step] at h
    split at h
    · rename_i ho; cases h; exact step_store X W K Ks c l n os A ho.1 ho.2 k Q
    · cases h

/-- Steps that are all allowed run to where they end. -/
theorem exec_ok (c : Dev nD) (Q : sProp 𝕄) : ∀ (os : List Op) (A A' : St), exec os A = some A' →
    iprop(Ctx X W K Ks ∗ owesA c os ∗ stRes X W c A) ⊢ iprop(((owesA c [] ∗ stRes X W c A') -∗ Q) -∗ WP c (runAll c os) Q)
  | [], A, A', h => by
    cases h
    have hr : Q ⊢ WP c (runAll c [] : PR F PUnit) Q := by
      show Q ⊢ wp frame (wpE (defs₀ (F := F)) 𝒱₀ c none) Set.univ (Prog.ret PUnit.unit) (fun _ => Q)
      rw [wp_ret]
      iintro H
      imodintro
      iexact H
    iintro ⟨-, HO, HS⟩ Hk
    iapply hr
    iapply Hk
    isplitl [HO] <;> iassumption
  | o :: os, A, A', h => by
    unfold exec at h
    cases hs : step os A o with
    | none => rw [hs] at h; cases h
    | some B =>
      rw [hs] at h
      have h1 := step_ok X W K Ks c o os A B hs (runAll c os) Q
      have h2 := exec_ok c Q os B A' h
      show _ ⊢ iprop(_ -∗ WP c (run c o >>= fun _ => runAll c os) Q)
      iintro ⟨#HC, HO, HS⟩ Hk
      iapply h1 $$ [HO HS]
      · isplitr; · iexact HC
        isplitl [HO] <;> iassumption
      iintro ⟨HO, HS⟩
      iapply h2 $$ [HO HS]
      · isplitr; · iexact HC
        isplitl [HO] <;> iassumption
      iexact Hk

end Body

end Cert.Ring

end
-- ==== Proof.Deal.lean ====
/-
# What the launch deals

The launch's ghost state, all in one piece, becomes every cell's and slot's invariant and, device by device, the
positions, the tokens of the payments that the device makes and its slots' readers.
-/
module

public import proofs.«01_k».proof.Proof.Lane

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot initSlots)

variable {F : FTy → Type} [FloatOps F]

local notation "𝕄" => MT nD τ sig ℕ (Elt F) ℕ UU ℕ

/-! ## Families -/

theorem eq_of {P Q : sProp 𝕄} (h1 : P ⊢ Q) (h2 : Q ⊢ P) : P = Q := BI.Entails.antisymm h1 h2
theorem bs_mono {I : Type} {S : Finset I} {Φ Ψ : I → sProp 𝕄} (h : ∀ i ∈ S, Φ i ⊢ Ψ i) : (bigSep S Φ : sProp 𝕄) ⊢ bigSep S Ψ := bigSep_mono h

/-- Out of a family, the members at `f i k`, row by row. -/
theorem bs_rows {I J : Type} [DecidableEq I] [DecidableEq J] (s : I → Finset ℕ) (f : I → ℕ → J)
    (hf : ∀ i k i' k', f i k = f i' k' → i = i' ∧ k = k') (Φ : J → sProp 𝕄) (S : Finset I) :
    ∀ t : Finset J, (∀ i ∈ S, ∀ k ∈ s i, f i k ∈ t) → (bigSep t Φ : sProp 𝕄) ⊢ bigSep S fun i => bigSep (s i) fun k => Φ (f i k) := by
  induction S using Finset.induction_on with
  | empty => intro t _; rw [bigSep_empty]; iintro -; iempintro
  | insert i S hi ih =>
    intro t ht
    have hsub : (s i).map ⟨f i, fun a b h => (hf i a i b h).2⟩ ⊆ t := fun x hx => by
      obtain ⟨k, hk, rfl⟩ := Finset.mem_map.mp hx
      exact ht i (Finset.mem_insert_self _ _) k hk
    have e : (bigSep (insert i S) fun i => bigSep (s i) fun k => Φ (f i k) : sProp 𝕄)
        = iprop((bigSep (s i) fun k => Φ (f i k)) ∗ bigSep S fun i => bigSep (s i) fun k => Φ (f i k)) := bigSep_insert hi
    rw [e, bs_union Φ hsub, bigSep_map]
    refine sep_mono_right (ih _ fun i' hi' k hk => ?_)
    refine Finset.mem_sdiff.mpr ⟨ht i' (Finset.mem_insert_of_mem hi') k hk, fun h => ?_⟩
    obtain ⟨k', -, h'⟩ := Finset.mem_map.mp h
    exact hi ((hf i k' i' k h').1 ▸ hi')

theorem bs_unit (Φ : Unit → sProp 𝕄) : (bigSep Finset.univ Φ : sProp 𝕄) = Φ () := by
  rw [show (Finset.univ : Finset Unit) = {()} from rfl]; exact bigSep_singleton
/-- A family over a device's cells, kind by kind. -/
theorem bs_cells (Φ : Cell → sProp 𝕄) : (bigSep Finset.univ Φ : sProp 𝕄)
    = iprop(Φ cBar ∗ (bigSep Finset.univ fun l : Fin 8 => bigSep Finset.univ fun s : Fin 3 => Φ (cSnd l s))
      ∗ (bigSep Finset.univ fun l : Fin 8 => bigSep Finset.univ fun s : Fin 3 => Φ (cRcv l s)) ∗ bigSep Finset.univ fun l : Fin 8 => Φ (cCrd l)) := by
  have e1 : (bigSep Finset.univ Φ : sProp 𝕄) = iprop((bigSep Finset.univ fun u : Unit => Φ (.inl u)) ∗ bigSep Finset.univ fun x => Φ (.inr x)) := bigSep_univ_sum Φ
  have e2 : (bigSep Finset.univ fun x => Φ (.inr x) : sProp 𝕄) = iprop((bigSep Finset.univ fun x => Φ (.inr (.inl x))) ∗ bigSep Finset.univ fun x => Φ (.inr (.inr x))) := bigSep_univ_sum _
  have e3 : (bigSep Finset.univ fun x => Φ (.inr (.inr x)) : sProp 𝕄) = iprop((bigSep Finset.univ fun x => Φ (.inr (.inr (.inl x)))) ∗ bigSep Finset.univ fun x => Φ (.inr (.inr (.inr x)))) := bigSep_univ_sum _
  rw [e1, e2, e3, bs_unit, bigSep_univ_prod, bigSep_univ_prod]
/-- The same of all devices' cells. -/
theorem bs_allcells (Φ : Dev nD × Cell → sProp 𝕄) : (bigSep Finset.univ Φ : sProp 𝕄)
    = bigSep Finset.univ fun c : Dev nD => bigSep Finset.univ fun x : Cell => Φ (c, x) := bigSep_univ_prod Φ

/-! ## The tokens -/

abbrev Tok : Type := GSem nD τ sig × ℕ × ℕ

def tBar (c : Dev nD) (d : ℕ) : Tok := (gcell c cBar, 0, d)
def tSnd (p : Dev nD × Fin 8) (k : ℕ) : Tok := (gcell p.1 (cSnd p.2 (sl k)), k / 3, 0)
def tRcv (p : Dev nD × Fin 8) (k : ℕ) : Tok := (gcell p.1 (cRcv p.2 (sl (k + 1))), k / 3, 0)
def tCrd (p : Dev nD × Fin 8) (d : ℕ) : Tok := (gcell p.1 (cCrd p.2), 0, d)

def tEmb {I : Type} (t : I → ℕ → Tok) (h : ∀ i k i' k', t i k = t i' k' → i = i' ∧ k = k') : I × ℕ ↪ Tok :=
  ⟨fun x => t x.1 x.2, fun x y e => Prod.ext (h _ _ _ _ e).1 (h _ _ _ _ e).2⟩

theorem tBar_inj (c : Dev nD) (d : ℕ) (c' : Dev nD) (d' : ℕ) (h : tBar c d = tBar c' d') : c = c' ∧ d = d' :=
  ⟨(gcell_inj (congrArg Prod.fst h)).1, congrArg (fun x : Tok => x.2.2) h⟩
theorem tCrd_inj (p : Dev nD × Fin 8) (d : ℕ) (p' : Dev nD × Fin 8) (d' : ℕ) (h : tCrd p d = tCrd p' d') : p = p' ∧ d = d' := by
  obtain ⟨h1, h2⟩ := gcell_inj (congrArg Prod.fst h)
  injection h2 with h2; injection h2 with h2; injection h2 with h2
  exact ⟨Prod.ext h1 h2, congrArg (fun x : Tok => x.2.2) h⟩
theorem tSnd_inj (p : Dev nD × Fin 8) (k : ℕ) (p' : Dev nD × Fin 8) (k' : ℕ) (h : tSnd p k = tSnd p' k') : p = p' ∧ k = k' := by
  obtain ⟨h1, h2⟩ := gcell_inj (congrArg Prod.fst h)
  injection h2 with h2; injection h2 with h2; injection h2 with h2 h3
  have h4 : k / 3 = k' / 3 := congrArg (fun x : Tok => x.2.1) h
  have h5 : k % 3 = k' % 3 := congrArg Fin.val h3
  exact ⟨Prod.ext h1 h2, by omega⟩
theorem tRcv_inj (p : Dev nD × Fin 8) (k : ℕ) (p' : Dev nD × Fin 8) (k' : ℕ) (h : tRcv p k = tRcv p' k') : p = p' ∧ k = k' := by
  obtain ⟨h1, h2⟩ := gcell_inj (congrArg Prod.fst h)
  injection h2 with h2; injection h2 with h2; injection h2 with h2; injection h2 with h2 h3
  have h4 : k / 3 = k' / 3 := congrArg (fun x : Tok => x.2.1) h
  have h5 : (k + 1) % 3 = (k' + 1) % 3 := congrArg Fin.val h3
  exact ⟨Prod.ext h1 h2, by omega⟩

def toksB : Finset Tok := ((Finset.univ : Finset (Dev nD)) ×ˢ Finset.range 2).map (tEmb tBar tBar_inj)
def toksS : Finset Tok := ((Finset.univ : Finset (Dev nD × Fin 8)) ×ˢ Finset.range 16).map (tEmb tSnd tSnd_inj)
def toksR : Finset Tok := ((Finset.univ : Finset (Dev nD × Fin 8)) ×ˢ Finset.range 16).map (tEmb tRcv tRcv_inj)
def toksC : Finset Tok := ((Finset.univ : Finset (Dev nD × Fin 8)) ×ˢ Finset.range 16).map (tEmb tCrd tCrd_inj)

theorem mem_tok {I : Type} [DecidableEq I] [Fintype I] {t : I → ℕ → Tok} {h : ∀ i k i' k', t i k = t i' k' → i = i' ∧ k = k'} {n : ℕ} {x : Tok} :
    x ∈ ((Finset.univ : Finset I) ×ˢ Finset.range n).map (tEmb t h) ↔ ∃ i, ∃ k, k < n ∧ t i k = x := by
  constructor
  · intro hx
    obtain ⟨⟨i, k⟩, hi, rfl⟩ := Finset.mem_map.mp hx
    exact ⟨i, k, Finset.mem_range.mp (Finset.mem_product.mp hi).2, rfl⟩
  · rintro ⟨i, k, hk, rfl⟩
    exact Finset.mem_map.mpr ⟨(i, k), Finset.mem_product.mpr ⟨Finset.mem_univ _, Finset.mem_range.mpr hk⟩, rfl⟩

def toksAll : Finset Tok := toksB ∪ (toksS ∪ (toksR ∪ toksC))

theorem disj_of {A B : Finset Tok} (h : ∀ x ∈ A, ∀ y ∈ B, x.1.2 ≠ y.1.2) : Disjoint A B :=
  Finset.disjoint_left.mpr fun x hA hB => h x hA x hB rfl

/-- The tokens kind by kind. -/
theorem toks_split (Φ : Tok → sProp 𝕄) : (bigSep toksAll Φ : sProp 𝕄)
    = iprop(bigSep toksB Φ ∗ bigSep toksS Φ ∗ bigSep toksR Φ ∗ bigSep toksC Φ) := by
  have hB : ∀ x ∈ toksB, ∃ c, x.1.2 = enc cBar := fun x hx => by
    obtain ⟨c, k, -, rfl⟩ := mem_tok.mp hx; exact ⟨c, rfl⟩
  have hS : ∀ x ∈ toksS, ∃ l s, x.1.2 = enc (cSnd l s) := fun x hx => by
    obtain ⟨c, k, -, rfl⟩ := mem_tok.mp hx; exact ⟨_, _, rfl⟩
  have hR : ∀ x ∈ toksR, ∃ l s, x.1.2 = enc (cRcv l s) := fun x hx => by
    obtain ⟨c, k, -, rfl⟩ := mem_tok.mp hx; exact ⟨_, _, rfl⟩
  have hC : ∀ x ∈ toksC, ∃ l, x.1.2 = enc (cCrd l) := fun x hx => by
    obtain ⟨c, k, -, rfl⟩ := mem_tok.mp hx; exact ⟨_, rfl⟩
  have d1 : Disjoint toksR toksC := disj_of fun x hx y hy e => by
    obtain ⟨l, s, h1⟩ := hR x hx; obtain ⟨l', h2⟩ := hC y hy
    have := enc_inj (h1.symm.trans (e.trans h2))
    cases this
  have d2 : Disjoint toksS (toksR ∪ toksC) := disj_of fun x hx y hy e => by
    obtain ⟨l, s, h1⟩ := hS x hx
    rcases Finset.mem_union.mp hy with hy | hy
    · obtain ⟨l', s', h2⟩ := hR y hy; have := enc_inj (h1.symm.trans (e.trans h2)); cases this
    · obtain ⟨l', h2⟩ := hC y hy; have := enc_inj (h1.symm.trans (e.trans h2)); cases this
  have d3 : Disjoint toksB (toksS ∪ (toksR ∪ toksC)) := disj_of fun x hx y hy e => by
    obtain ⟨l, h1⟩ := hB x hx
    rcases Finset.mem_union.mp hy with hy | hy
    · obtain ⟨l', s', h2⟩ := hS y hy; have := enc_inj (h1.symm.trans (e.trans h2)); cases this
    rcases Finset.mem_union.mp hy with hy | hy
    · obtain ⟨l', s', h2⟩ := hR y hy; have := enc_inj (h1.symm.trans (e.trans h2)); cases this
    · obtain ⟨l', h2⟩ := hC y hy; have := enc_inj (h1.symm.trans (e.trans h2)); cases this
  unfold toksAll
  have e1 : (bigSep (toksB ∪ (toksS ∪ (toksR ∪ toksC))) Φ : sProp 𝕄) = iprop(bigSep toksB Φ ∗ bigSep (toksS ∪ (toksR ∪ toksC)) Φ) := bigSep_union d3
  have e2 : (bigSep (toksS ∪ (toksR ∪ toksC)) Φ : sProp 𝕄) = iprop(bigSep toksS Φ ∗ bigSep (toksR ∪ toksC) Φ) := bigSep_union d2
  have e3 : (bigSep (toksR ∪ toksC) Φ : sProp 𝕄) = iprop(bigSep toksR Φ ∗ bigSep toksC Φ) := bigSep_union d1
  rw [e1, e2, e3]

/-! ## What each device is dealt -/

section Deal

variable (X : Dev nD → Vec F S2048x128 .bf16) (W : Dev nD → Vec F S128x2048 .bf16)

theorem last_lt (l : Fin 8) : last l + 1 ≤ 16 := by unfold last; split <;> decide

def barLin (c : Dev nD) : sProp 𝕄 :=
  iprop((bigSep (Finset.Ico 0 2) fun d => dutyTok ER (gcell (if d = 0 then rgt c else lft c) cBar) 0 d) ∗ atPos ER (gcell c cBar) 0 ∅ 0)
def laneTok (p : Dev nD × Fin 8) : sProp 𝕄 :=
  iprop((bigSep (Finset.Ico 0 (last p.2 + 1)) fun k => dutyTok ER (gcell p.1 (cSnd p.2 (sl k))) (k / 3) 0)
    ∗ (bigSep (Finset.Ico 0 (last p.2 + 1)) fun k => dutyTok ER (gcell (dst p.2 p.1) (cRcv p.2 (sl (k + 1)))) (k / 3) 0)
    ∗ (bigSep (Finset.Ico 0 (last p.2 + 1)) fun k => writeTok EK (dst p.2 p.1, p.2, sl (k + 1)) (k / 3 + 1))
    ∗ (bigSep (Finset.Ico 0 (last p.2 - 1)) fun j => dutyTok ER (gcell (src p.2 p.1) (cCrd p.2)) 0 j))
def laneAt (c : Dev nD) (l : Fin 8) : sProp 𝕄 :=
  iprop((bigSep Finset.univ fun s : Fin 3 => atPos ER (gcell c (cSnd l s)) 0 ∅ 0)
    ∗ (bigSep Finset.univ fun s : Fin 3 => atPos ER (gcell c (cRcv l s)) 0 ∅ 0)
    ∗ atPos ER (gcell c (cCrd l)) 0 ∅ 0)
def laneRd (c : Dev nD) (l : Fin 8) : sProp 𝕄 := bigSep Finset.univ fun s : Fin 3 => readerAt EK (c, l, s) 0
def linear (c : Dev nD) : sProp 𝕄 :=
  iprop(barLin c ∗ (bigSep Finset.univ fun l : Fin 8 => laneTok (c, l)) ∗ (bigSep Finset.univ fun l : Fin 8 => laneAt c l)
    ∗ bigSep Finset.univ fun l : Fin 8 => laneRd c l)

/-- The barrier's tokens. -/
theorem deal_bar : (bigSep toksB fun x => (dutyTok ER x.1 x.2.1 x.2.2 : sProp 𝕄))
    ⊢ bigSep Finset.univ fun c : Dev nD => bigSep (Finset.Ico 0 2) fun d => dutyTok ER (gcell (if d = 0 then rgt c else lft c) cBar) 0 d :=
  bs_rows (fun _ : Dev nD => Finset.Ico 0 2) (fun c d => tBar (if d = 0 then rgt c else lft c) d)
    (fun c d c' d' h => by
      obtain ⟨h1, h2⟩ := tBar_inj _ _ _ _ h
      subst h2
      refine ⟨?_, rfl⟩
      split at h1
      · rw [← lft_rgt c, h1, lft_rgt]
      · rw [← rgt_lft c, h1, rgt_lft])
    (fun x => dutyTok ER x.1 x.2.1 x.2.2) Finset.univ toksB
    (fun c _ d hd => mem_tok.mpr ⟨_, d, (Finset.mem_Ico.mp hd).2, rfl⟩)

theorem dst_inj {l : Fin 8} {c c' : Dev nD} (h : dst l c = dst l c') : c = c' := by rw [← src_dst l c, h, src_dst]
theorem src_inj {l : Fin 8} {c c' : Dev nD} (h : src l c = src l c') : c = c' := by rw [← dst_src l c, h, dst_src]

theorem deal_snd : (bigSep toksS fun x => (dutyTok ER x.1 x.2.1 x.2.2 : sProp 𝕄))
    ⊢ bigSep Finset.univ fun p : Dev nD × Fin 8 => bigSep (Finset.Ico 0 (last p.2 + 1)) fun k => dutyTok ER (gcell p.1 (cSnd p.2 (sl k))) (k / 3) 0 :=
  bs_rows (fun p : Dev nD × Fin 8 => Finset.Ico 0 (last p.2 + 1)) tSnd tSnd_inj
    (fun x => dutyTok ER x.1 x.2.1 x.2.2) Finset.univ toksS
    (fun p _ k hk => mem_tok.mpr ⟨p, k, Nat.lt_of_lt_of_le (Finset.mem_Ico.mp hk).2 (last_lt _), rfl⟩)

theorem deal_rcv : (bigSep toksR fun x => (dutyTok ER x.1 x.2.1 x.2.2 : sProp 𝕄))
    ⊢ bigSep Finset.univ fun p : Dev nD × Fin 8 => bigSep (Finset.Ico 0 (last p.2 + 1)) fun k => dutyTok ER (gcell (dst p.2 p.1) (cRcv p.2 (sl (k + 1)))) (k / 3) 0 :=
  bs_rows (fun p : Dev nD × Fin 8 => Finset.Ico 0 (last p.2 + 1)) (fun p k => tRcv (dst p.2 p.1, p.2) k)
    (fun p k p' k' h => by
      obtain ⟨h1, h2⟩ := tRcv_inj _ _ _ _ h
      obtain ⟨c, l⟩ := p; obtain ⟨c', l'⟩ := p'
      obtain ⟨h3, rfl⟩ := Prod.mk.inj h1
      have h4 := dst_inj h3
      change c = c' at h4
      exact ⟨by rw [h4], h2⟩)
    (fun x => dutyTok ER x.1 x.2.1 x.2.2) Finset.univ toksR
    (fun p _ k hk => mem_tok.mpr ⟨_, k, Nat.lt_of_lt_of_le (Finset.mem_Ico.mp hk).2 (last_lt _), rfl⟩)

theorem deal_crd : (bigSep toksC fun x => (dutyTok ER x.1 x.2.1 x.2.2 : sProp 𝕄))
    ⊢ bigSep Finset.univ fun p : Dev nD × Fin 8 => bigSep (Finset.Ico 0 (last p.2 - 1)) fun j => dutyTok ER (gcell (src p.2 p.1) (cCrd p.2)) 0 j :=
  bs_rows (fun p : Dev nD × Fin 8 => Finset.Ico 0 (last p.2 - 1)) (fun p k => tCrd (src p.2 p.1, p.2) k)
    (fun p k p' k' h => by
      obtain ⟨h1, h2⟩ := tCrd_inj _ _ _ _ h
      obtain ⟨c, l⟩ := p; obtain ⟨c', l'⟩ := p'
      obtain ⟨h3, rfl⟩ := Prod.mk.inj h1
      have h4 := src_inj h3
      change c = c' at h4
      exact ⟨by rw [h4], h2⟩)
    (fun x => dutyTok ER x.1 x.2.1 x.2.2) Finset.univ toksC
    (fun p _ k hk => mem_tok.mpr ⟨_, k, by have := (Finset.mem_Ico.mp hk).2; have := last_lt p.2; omega, rfl⟩)

theorem deal_wr : (bigSep ((Finset.univ : Finset Key) ×ˢ Finset.range 6) fun x => (writeTok EK x.1 (x.2 + 1) : sProp 𝕄))
    ⊢ bigSep Finset.univ fun p : Dev nD × Fin 8 => bigSep (Finset.Ico 0 (last p.2 + 1)) fun k => writeTok EK (dst p.2 p.1, p.2, sl (k + 1)) (k / 3 + 1) :=
  bs_rows (fun p : Dev nD × Fin 8 => Finset.Ico 0 (last p.2 + 1)) (fun p k => ((dst p.2 p.1, p.2, sl (k + 1)), k / 3))
    (fun p k p' k' h => by
      obtain ⟨c, l⟩ := p; obtain ⟨c', l'⟩ := p'
      obtain ⟨h1, h2⟩ := Prod.mk.inj h
      obtain ⟨h3, h4⟩ := Prod.mk.inj h1
      obtain ⟨h5, h6⟩ := Prod.mk.inj h4
      change l = l' at h5
      subst h5
      have h7 : (k + 1) % 3 = (k' + 1) % 3 := congrArg Fin.val h6
      have h8 := dst_inj h3
      change c = c' at h8
      exact ⟨by rw [h8], by omega⟩)
    (fun x => writeTok EK x.1 (x.2 + 1)) Finset.univ _
    (fun p _ k hk => Finset.mem_product.mpr ⟨Finset.mem_univ _, Finset.mem_range.mpr (by
      have := (Finset.mem_Ico.mp hk).2; have := last_lt p.2
      show k / 3 < 6
      omega)⟩)

def cellsAll : Finset (GSem nD τ sig) :=
  (Finset.univ : Finset (Dev nD × Cell)).map ⟨fun p => gcell p.1 p.2, fun p q h => Prod.ext (gcell_inj h).1 (gcell_inj h).2⟩

theorem bs_cellsAll (Φ : GSem nD τ sig → sProp 𝕄) :
    (bigSep cellsAll Φ : sProp 𝕄) = bigSep Finset.univ fun p : Dev nD × Cell => Φ (gcell p.1 p.2) := by
  unfold cellsAll; rw [bigSep_map]; rfl

/-- The launch's ghost state in one piece. -/
def piece : sProp 𝕄 := iprop(BI.own (ER (initOf cellsAll toksAll)) ∗ BI.own (EK (initSlots (Finset.univ : Finset Key) 6)))
/-- It is handed to device 0. -/
def G (c : Dev nD) : sProp 𝕄 := if c = (0 : Dev nD) then piece else iprop(emp)

theorem G_intro : (piece : sProp 𝕄) ⊢ bigSep Finset.univ (G (F := F)) := by
  have e : (bigSep Finset.univ (G (F := F)) : sProp 𝕄) = iprop(G (0 : Dev nD) ∗ bigSep (Finset.univ.erase (0 : Dev nD)) G) := bigSep_univ_split 0
  have e2 : (bigSep (Finset.univ.erase (0 : Dev nD)) (G (F := F)) : sProp 𝕄) = iprop(emp) := by
    have h : (bigSep (Finset.univ.erase (0 : Dev nD)) (G (F := F)) : sProp 𝕄) = bigSep (Finset.univ.erase (0 : Dev nD)) fun _ => iprop(emp) :=
      bigSep_congr fun c hc => if_neg (Finset.ne_of_mem_erase hc)
    rw [h]; exact bigSep_emp_const _
  rw [e, e2, show (G (0 : Dev nD) : sProp 𝕄) = piece from if_pos rfl]
  iintro H
  isplitl [H]; · iexact H
  iempintro

/-- A device's own semaphores, as the launch counts them. -/
abbrev OwnC : Type := (Fin 8 × Fin 3) ⊕ (Fin 8 × Fin 3) ⊕ Fin 8
abbrev osem : OwnC → SemLoc sig := fun x => enc (.inr x)

theorem sems_eq (c : Dev nD) : iprop(Pipeline.ownSems0 (Ix := ℕ) (Name := ℕ) (U := UU) (Lvl := ℕ) (Val := Elt F) (τ := τ) osem c ∗ unscopedSems0 c)
    = (bigSep Finset.univ fun x : Cell => semVal (gcell c x) 0 : sProp 𝕄) := by
  have e1 : (bigSep Finset.univ fun x : Cell => semVal (gcell c x) 0 : sProp 𝕄)
      = iprop((bigSep Finset.univ fun u : Unit => semVal (gcell c (.inl u)) 0) ∗ bigSep Finset.univ fun x : OwnC => semVal (gcell c (.inr x)) 0) := bigSep_univ_sum _
  have e2 : (unscopedSems0 c : sProp 𝕄) = semVal (gcell c cBar) 0 := by
    unfold unscopedSems0; rw [bigSep_eq_bigSepL_of_eq [SemLoc.reg barS] (by decide) (by decide)]; rfl
  have e3 : (Pipeline.ownSems0 (Ix := ℕ) (Name := ℕ) (U := UU) (Lvl := ℕ) (Val := Elt F) (τ := τ) osem c : sProp 𝕄)
      = bigSep Finset.univ fun x : OwnC => semVal (gcell c (.inr x)) 0 := rfl
  rw [e1, bs_unit, e2, e3]
  refine eq_of ?_ ?_
  · iintro ⟨H1, H2⟩; isplitl [H2]
    · iexact H2
    iexact H1
  · iintro ⟨H1, H2⟩; isplitl [H2]
    · iexact H2
    iexact H1

def Known (K : Dev nD × Cell → ℕ) (Ks : Key → ℕ) : sProp 𝕄 :=
  iprop((bigSep Finset.univ fun p : Dev nD × Cell => cellInv ER (Rd X W) (K p) (gcell p.1 p.2))
    ∗ (bigSep Finset.univ fun k : Key => slotInv EK (Ks k) k (slotP k))
    ∗ (bigSep Finset.univ fun p : Dev nD × Cell => reached ER (gcell p.1 p.2) 0))
instance Known_persistent (K : Dev nD × Cell → ℕ) (Ks : Key → ℕ) : BI.Persistent (Known X W K Ks) := by unfold Known; infer_instance

def G' (c : Dev nD) : sProp 𝕄 := iprop(∃ K, ∃ Ks, Known X W K Ks ∗ linear c)

theorem bs_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_lin :
    iprop((bigSep Finset.univ fun p : Dev nD × Cell => atPos ER (gcell p.1 p.2) 0 ∅ 0)
      ∗ (bigSep toksAll fun x => (dutyTok ER x.1 x.2.1 x.2.2 : sProp 𝕄))
      ∗ (bigSep Finset.univ fun k : Key => readerAt EK k 0)
      ∗ (bigSep ((Finset.univ : Finset Key) ×ˢ Finset.range 6) fun x => writeTok EK x.1 (x.2 + 1)))
      ⊢ bigSep Finset.univ fun c : Dev nD => (linear c : sProp 𝕄) := by
  have e1 : (bigSep Finset.univ fun c : Dev nD => (linear c : sProp 𝕄))
      = iprop((bigSep Finset.univ fun c : Dev nD => bigSep (Finset.Ico 0 2) fun d => dutyTok ER (gcell (if d = 0 then rgt c else lft c) cBar) 0 d)
        ∗ (bigSep Finset.univ fun p : Dev nD × Fin 8 => laneTok p)
        ∗ (bigSep Finset.univ fun p : Dev nD × Cell => atPos ER (gcell p.1 p.2) 0 ∅ 0)
        ∗ bigSep Finset.univ fun k : Key => readerAt EK k 0) := by
    unfold linear barLin laneAt laneRd
    simp only [bigSep_sep', bigSep_univ_prod, bs_cells]
    refine eq_of ?_ ?_
    · iintro ⟨⟨H1, H2⟩, H3, ⟨H4, H5, H6⟩, H7⟩
      isplitl [H1]; · iexact H1
      isplitl [H3]; · iexact H3
      isplitl [H2 H4 H5 H6]
      · isplitl [H2]; · iexact H2
        isplitl [H4]; · iexact H4
        isplitl [H5]; · iexact H5
        iexact H6
      iexact H7
    · iintro ⟨H1, H3, ⟨H2, H4, H5, H6⟩, H7⟩
      isplitl [H1 H2]
      · isplitl [H1]; · iexact H1
        iexact H2
      isplitl [H3]; · iexact H3
      isplitl [H4 H5 H6]
      · isplitl [H4]; · iexact H4
        isplitl [H5]; · iexact H5
        iexact H6
      iexact H7
  rw [e1, toks_split]
  unfold laneTok
  simp only [bigSep_sep']
  iintro ⟨H1, ⟨H2, H3, H4, H5⟩, H6, H7⟩
  isplitl [H2]; · iapply deal_bar $$ H2
  isplitl [H3 H4 H5 H7]
  · isplitl [H3]; · iapply deal_snd $$ H3
    isplitl [H4]; · iapply deal_rcv $$ H4
    isplitl [H7]; · iapply deal_wr $$ H7
    iapply deal_crd $$ H5
  isplitl [H1]; · iexact H1
  iexact H6

/-- The launch's step: all devices' semaphores and the piece become the invariants and every device's share. -/
theorem glob : (bigSep Finset.univ fun c => iprop(Pipeline.ownSems0 (Ix := ℕ) (Name := ℕ) (U := UU) (Lvl := ℕ) (Val := Elt F) (τ := τ) osem c ∗ unscopedSems0 c ∗ G c) : sProp 𝕄)
    ⊢ |={Set.univ}=> bigSep Finset.univ (G' X W) := by
  have e1 : (bigSep Finset.univ fun c => iprop(Pipeline.ownSems0 (Ix := ℕ) (Name := ℕ) (U := UU) (Lvl := ℕ) (Val := Elt F) (τ := τ) osem c ∗ unscopedSems0 c ∗ G c) : sProp 𝕄)
      ⊢ iprop((bigSep Finset.univ fun p : Dev nD × Cell => semVal (gcell p.1 p.2) 0) ∗ bigSep Finset.univ (G (F := F))) := by
    rw [bs_allcells, ← bigSep_sep']
    refine bs_mono fun c _ => ?_
    rw [← sems_eq]
    iintro ⟨H1, H2, H3⟩
    isplitr [H3]
    · isplitl [H1] <;> iassumption
    iexact H3
  have e2 : (bigSep Finset.univ (G (F := F)) : sProp 𝕄) ⊢ piece :=
    (bs_elim (Finset.mem_univ (0 : Dev nD))).trans (Entails.of_eq (if_pos rfl))
  have e3 : iprop((bigSep Finset.univ fun p : Dev nD × Cell => semVal (gcell p.1 p.2) 0) ∗ bigSep Finset.univ fun p : Dev nD × Cell => roundState ER (Rd X W) (gcell p.1 p.2) 0)
      ⊢ (|={Set.univ}=> bigSep Finset.univ fun p : Dev nD × Cell => iprop(∃ κ : ℕ, cellInv ER (Rd X W) κ (gcell p.1 p.2)) : sProp 𝕄) := by
    rw [← bigSep_sep']
    exact (bigSep_mono fun p _ => (Rounds.body_intro ER (Rd X W) (gcell p.1 p.2)).trans inv_alloc).trans (bigSep_fupd _ _)
  iintro H
  ihave H := e1 $$ H
  icases H with ⟨Hsem, HG⟩
  ihave HG := e2 $$ HG
  unfold piece
  icases HG with ⟨HR, HK⟩
  imod (Rounds.fund ER (Rd X W) cellsAll toksAll) $$ HR with ⟨Hst, Hr, Hat, Htok⟩
  ihave Hst := (Entails.of_eq (bs_cellsAll fun g => roundState ER (Rd X W) g 0)) $$ Hst
  ihave Hr := (Entails.of_eq (bs_cellsAll fun g => reached ER g 0)) $$ Hr
  ihave Hat := (Entails.of_eq (bs_cellsAll fun g => atPos ER g 0 ∅ 0)) $$ Hat
  imod (Release.slots_init EK (Finset.univ : Finset Key) 6 (fun k => slotP (F := F) k)) $$ HK with ⟨%Ks, -, Hsl, Hrd, Hwr⟩
  imod e3 $$ [Hsem Hst] with HI
  · isplitl [Hsem] <;> iassumption
  ihave HI := (BI.bigSep_exists_pi Finset.univ (fun (p : Dev nD × Cell) (κ : ℕ) => (cellInv ER (Rd X W) κ (gcell p.1 p.2) : sProp 𝕄))) $$ HI
  icases HI with ⟨%K, HI⟩
  ihave HL := (deal_lin (F := F)) $$ [Hat Htok Hrd Hwr]
  · isplitl [Hat]; · iexact Hat
    isplitl [Htok]; · iexact Htok
    isplitl [Hrd] <;> iassumption
  imodintro
  iapply (bs_with (R := Known X W K Ks) (Φ := fun c => linear c) fun c _ => (show iprop(Known X W K Ks ∗ linear c) ⊢ G' X W c from by
    unfold G'; iintro H; iexists K; iexists Ks; iexact H))
  isplitr [HL]
  · unfold Known
    isplitl [HI]; · iexact HI
    isplitl [Hsl] <;> iassumption
  iexact HL

end Deal

end Cert.Ring

end
-- ==== Proof.Entry.lean ====
/-
# The body from end to end

What the launch deals a device becomes the body's first state; what the body leaves becomes the result's contents, the
scratch buffers whole and every semaphore at zero.
-/
module

public import proofs.«01_k».proof.Proof.Body
public import Idealize.ShloMosaic.Lib.Ring
public import proofs.«01_k».proof.Proof.Deal

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot initSlots)

variable {F : FTy → Type} [FloatOps F]

local notation "𝕄" => MT nD τ sig ℕ (Elt F) ℕ UU ℕ

/-! ## The lanes' buffers -/

/-- The elements of a lane's slot. -/
def slI (l : Fin 8) (s : Fin 3) : Finset (cM l).view.ty.Idx := (slC l s).view.set

theorem slC_disj (l : Fin 8) (s s' : Fin 3) (h : s ≠ s') : Disjoint (slI l s) (slI l s') := by
  show Disjoint ((cM l).view.slice (slR s)).set ((cM l).view.slice (slR s')).set
  rw [View.set_slice, View.set_slice]
  exact (Finset.disjoint_map _).mpr (slR_disj h)

theorem cM_set (l : Fin 8) : (cM l).view.set = Finset.univ := by fin_cases l <;> exact View.set_whole _

theorem slC_cover (l : Fin 8) : Finset.univ.biUnion (slI l) = Finset.univ := by
  rw [← cM_set l]
  have h : ∀ s : Fin 3, slI l s = (slR s).set.map (cM l).view.emb := fun s => View.set_slice _ _
  ext i
  constructor
  · intro hi
    obtain ⟨s, -, hi⟩ := Finset.mem_biUnion.mp hi
    exact View.set_slice_subset _ _ hi
  · intro hi
    rw [View.set, Finset.mem_map] at hi
    obtain ⟨x, -, rfl⟩ := hi
    obtain ⟨s, -, hx⟩ := Finset.mem_biUnion.mp (slR_cover.symm ▸ Finset.mem_univ x)
    exact Finset.mem_biUnion.mpr ⟨s, Finset.mem_univ _, by rw [h]; exact Finset.mem_map_of_mem _ hx⟩

/-- A lane's buffer, whole, at some contents. -/
def bufL (c : Dev nD) (l : Fin 8) : sProp 𝕄 := iprop(∃ f : Buf (Elt F) ((cM l).view.loc (c : Thread nD τ)), ((cM l).view.loc (c : Thread nD τ)) ↦{fullShare} f)

theorem buf_split (c : Dev nD) (l : Fin 8) : (bufL c l : sProp 𝕄) ⊢ bigSep Finset.univ fun s : Fin 3 => slotP (c, l, s) := by
  unfold bufL
  iintro ⟨%f, H⟩
  ihave H := (Entails.of_eq (Idealize.ShloMosaic.Ring.pointsTo_blocks (ℓ := (cM l).view.loc (c : Thread nD τ)) (slI l) (slC_disj l) (slC_cover l) f)) $$ H
  iapply (bs_mono (F := F) (S := Finset.univ) (Ψ := fun s : Fin 3 => slotP (c, l, s)) fun s _ => (show (((cM l).view.loc (c : Thread nD τ)) ↦[(slC l s).view.set]{fullShare} f : sProp 𝕄) ⊢ slotP (c, l, s) from by
    unfold slotP slot; iintro H; iexists f; iexact H))
  iexact H

theorem buf_join (c : Dev nD) (l : Fin 8) : (bigSep Finset.univ fun s : Fin 3 => slotP (c, l, s) : sProp 𝕄) ⊢ bufL c l :=
  Idealize.ShloMosaic.Ring.pointsTo_blocks_join_exists (ℓ := (cM l).view.loc (c : Thread nD τ)) (slI l) (slC_disj l) (slC_cover l)
    (fun _ => Classical.arbitrary _)

/-! ## The result's contents -/

section Run

variable (X : Dev nD → Vec F S2048x128 .bf16) (W : Dev nD → Vec F S128x2048 .bf16)

theorem rowF_surj (c : Dev nD) (r : Fin 16) : ∃ o, o < 16 ∧ rowF c o = r := by
  have h : Function.Surjective fun o : Fin 16 => rowF c o.val :=
    Finite.surjective_of_injective fun a b e => Fin.ext (rowF_inj a.isLt b.isLt e)
  obtain ⟨o, ho⟩ := h r
  exact ⟨o.val, o.isLt, ho⟩

/-- The block that a device's result holds at last at relative row block `o`. -/
def wantV (c : Dev nD) (o : ℕ) (j : Fin 4) : Vec F S128x512 .f32 :=
  match want o j with
  | .C => fin X W j c
  | .S l k => wideV (val X W l k c)
  | _ => acc X W c o j

theorem out_index (c : Dev nD) (i : S2048x2048.Idx) : ∃ x : ℕ × Fin 4 × S128x512.Idx, x.1 < 16 ∧ bIx (rowF c x.1) x.2.1 x.2.2 = i := by
  obtain ⟨r, j, i', h⟩ := bIx_surj i
  obtain ⟨o, ho, rfl⟩ := rowF_surj c r
  exact ⟨(o, j, i'), ho, h⟩

/-- A device's result. -/
def outF (c : Dev nD) : S2048x2048.Idx → Elt F .f32 := fun i =>
  wantV X W c (out_index c i).choose.1 (out_index c i).choose.2.1 (out_index c i).choose.2.2

theorem outF_at (c : Dev nD) (o : ℕ) (ho : o < 16) (j : Fin 4) (i : S128x512.Idx) : outF X W c (bIx (rowF c o) j i) = wantV X W c o j i := by
  have h := (out_index c (bIx (rowF c o) j i)).choose_spec
  obtain ⟨h1, h2, h3⟩ := bIx_inj h.2
  have h4 := rowF_inj h.1 ho h1
  unfold outF
  rw [h2, h3, h4]

theorem okB_want (c : Dev nD) (o : ℕ) (j : Fin 4) (v : Vec F S128x512 .f32) (h : okB X W c o j v (want o j)) : v = wantV X W c o j := by
  unfold wantV
  have hw : ∃ x, want o j = x ∧ (x = .C ∨ ∃ l k, x = .S l k) := by
    refine ⟨_, rfl, ?_⟩
    unfold want
    split
    · exact Or.inl rfl
    split
    · exact Or.inr ⟨_, _, rfl⟩
    split
    · split <;> exact Or.inr ⟨_, _, rfl⟩
    · split <;> exact Or.inr ⟨_, _, rfl⟩
  obtain ⟨x, e, rfl | ⟨l, k, rfl⟩⟩ := hw
  · rw [e] at h ⊢; exact h
  · rw [e] at h ⊢; exact h

theorem out_done (c : Dev nD) (A : St) (hA : ∀ o, o < 16 → ∀ j : Fin 4, A.blk o j = want o j) (f : S2048x2048.Idx → Elt F .f32) (h : OutOK X W c A f) :
    f = outF X W c := by
  funext i
  obtain ⟨⟨o, j, i'⟩, ho, rfl⟩ := out_index c i
  have ho : o < 16 := ho
  have h1 := h o ho j
  rw [hA o ho j] at h1
  have h2 := congrFun (okB_want X W c o j _ h1) i'
  exact ((blk_apply f (rowF c o) j i').symm.trans h2).trans (outF_at X W c o ho j i').symm

/-! ## In -/

variable (K : Dev nD × Cell → ℕ) (Ks : Key → ℕ)

def laneCr (c : Dev nD) (l : Fin 8) : sProp 𝕄 :=
  iprop((bigSep (Finset.Ico 0 (last l + 1)) fun k => cred (tallyAt (gcell c (cRcv l (sl (k + 1)))) (labS l k) N))
    ∗ (bigSep (Finset.Ico 0 (last l - 1)) fun i => cred (tallyAt (gcell c (cCrd l)) (labG l i) 1)))

def ls0 : LS := ⟨0, 0, 0, 0, 0, 0, .any, .gone, .gone⟩

theorem bs_three (Φ : Fin 3 → sProp 𝕄) : (bigSep Finset.univ Φ : sProp 𝕄) = iprop(Φ 0 ∗ Φ 1 ∗ Φ 2) :=
  bigSep_univ_eq_bigSepL [0, 1, 2] (by decide) (by decide) Φ

theorem cntS_zero : ∀ s : Fin 3, cntS s 0 = 0 := by decide
theorem cntR_zero : ∀ s : Fin 3, cntR s 0 = 0 := by decide

/-- A lane's first state: its second and third slots are released. -/
theorem lane_open (c : Dev nD) (l : Fin 8) :
    iprop(Ctx X W K Ks ∗ (bigSep Finset.univ fun s : Fin 3 => slotP (c, l, s)) ∗ laneTok (c, l) ∗ laneAt c l ∗ laneRd c l ∗ laneCr c l)
      ⊢ |={Set.univ}=> iprop(laneRes X W c l ls0 ∗ okTo c l 2) := by
  rw [show laneRes X W c l ls0 = laneR X W c l 0 0 0 0 0 0 ls0.get from rfl]
  unfold laneR laneTok laneAt laneRd laneCr sndTok
  have hc : (crdPos c l 0 : sProp 𝕄) = iprop(∃ S : Finset ℕ, ⌜S ⊆ Finset.range (last l - 1)⌝ ∗ atPos ER (gcell c (cCrd l)) 0 S 0 ∗ bigSep S fun d => okTo (dst l c) l (d + 3)) := by
    unfold crdPos
    rw [if_pos (by revert l; decide)]
  rw [hc]
  simp only [bigSep_sep', bs_three, bs_nil, cntS_zero, cntR_zero]
  rw [show (okTo (dst l c) l 0 : sProp 𝕄) = iprop(emp) from bigSep_empty]
  have hO : (okTo c l (0 + 2) : sProp 𝕄) = okTo c l 2 := rfl
  have h2 : (okTo c l 2 : sProp 𝕄) = iprop(okHop c l 1 ∗ okHop c l 0 ∗ emp) := by
    rw [okTo_succ, okTo_succ]; rw [show (okTo c l 0 : sProp 𝕄) = iprop(emp) from bigSep_empty]
  rw [hO, h2]
  show iprop(Ctx X W K Ks ∗ (slotP (c, l, 0) ∗ slotP (c, l, 1) ∗ slotP (c, l, 2)) ∗ _ ∗ _ ∗ (readerAt EK (c, l, 0) 0 ∗ readerAt EK (c, l, 1) 0 ∗ readerAt EK (c, l, 2) 0) ∗ _) ⊢ _
  iintro ⟨#HC, ⟨Hs0, Hs1, Hs2⟩, ⟨T1, T2, T3, T4⟩, ⟨A1, A2, A3⟩, ⟨R0, R1, R2⟩, C1, C2⟩
  imod (Release.slot_release EK (Set.mem_univ _) (slotP_false (c, l, 1)) 0 (ι := Ks (c, l, 1))) $$ [Hs1 R1] with ⟨R1, #L1⟩
  · isplitr; · iapply (ctx_slot X W K Ks _); iexact HC
    isplitl [R1]; · iexact R1
    iexact Hs1
  imod (Release.slot_release EK (Set.mem_univ _) (slotP_false (c, l, 2)) 0 (ι := Ks (c, l, 2))) $$ [Hs2 R2] with ⟨R2, #L2⟩
  · isplitr; · iapply (ctx_slot X W K Ks _); iexact HC
    isplitl [R2]; · iexact R2
    iexact Hs2
  ihave #Z0 := (ctx_zero X W K Ks c (cSnd l 0)) $$ HC
  ihave #Z1 := (ctx_zero X W K Ks c (cSnd l 1)) $$ HC
  ihave #Z2 := (ctx_zero X W K Ks c (cSnd l 2)) $$ HC
  ihave #Y0 := (ctx_zero X W K Ks c (cRcv l 0)) $$ HC
  ihave #Y1 := (ctx_zero X W K Ks c (cRcv l 1)) $$ HC
  ihave #Y2 := (ctx_zero X W K Ks c (cRcv l 2)) $$ HC
  ihave #O1 : (okHop c l 1) $$ []
  · unfold okHop
    isplitr
    · iexact L2
    iexact Y2
  ihave #O0 : (okHop c l 0) $$ []
  · unfold okHop
    isplitr
    · iexact L1
    iexact Y1
  imodintro
  isplitl
  · isplitl [T1 T2 T3]
    · isplitl [T1]; · iexact T1
      isplitl [T2] <;> iassumption
    isplitl [T4]; · iexact T4
    isplitl [C1]; · iexact C1
    isplitl [C2]; · iexact C2
    isplitr; · iempintro
    isplitl [A1]; · iexact A1
    isplitr
    · isplitr; · iexact Z0
      isplitr; · iexact Z1
      iexact Z2
    isplitl [A2]; · iexact A2
    isplitr
    · isplitr; · iexact Y0
      isplitr; · iexact Y1
      iexact Y2
    isplitl [A3]
    · iexists (∅ : Finset ℕ)
      isplitr; · ipureintro; exact Finset.empty_subset _
      isplitl [A3]; · iexact A3
      iapply (Entails.of_eq (bigSep_empty (Φ := fun d => (okTo (dst l c) l (d + 3) : sProp 𝕄))).symm)
      iempintro
    isplitl [R0 R1 R2]
    · isplitl [R0]; · iexact R0
      isplitl [R1]; · iexact R1
      iexact R2
    isplitr
    · isplitr; · iexact O1
      isplitr; · iexact O0
      iempintro
    isplitr; · iempintro
    isplitl [Hs0]; · iapply (Entails.of_eq (show slotP (c, l, 0) = slotRes X W c l 0 (ls0.get 0) from rfl)); iexact Hs0
    isplitr
    · iapply (Entails.of_eq (show (iprop(emp) : sProp 𝕄) = slotRes X W c l 1 (ls0.get 1) from rfl)); iempintro
    · iapply (Entails.of_eq (show (iprop(emp) : sProp 𝕄) = slotRes X W c l 2 (ls0.get 2) from rfl)); iempintro
  · isplitr; · iexact O1
    isplitr; · iexact O0
    iempintro

/-- A device's first state. -/
theorem body_in (c : Dev nD) :
    iprop(Ctx X W K Ks ∗ linear c ∗ cred (tallyAt (gcell c cBar) 1 2) ∗ (bigSep Finset.univ fun l : Fin 8 => laneCr c l)
        ∗ (bigSep Finset.univ fun l : Fin 8 => bufL c l) ∗ xR c (X c) ∗ wR c (W c) ∗ ∃ f, outR c f)
      ⊢ |={Set.univ}=> stRes X W c init := by
  have h1 : iprop(Ctx X W K Ks ∗ (bigSep Finset.univ fun l : Fin 8 => iprop(bufL c l ∗ laneTok (c, l) ∗ laneAt c l ∗ laneRd c l ∗ laneCr c l)))
      ⊢ (|={Set.univ}=> bigSep Finset.univ fun l : Fin 8 => iprop(laneRes X W c l ls0 ∗ okTo c l 2) : sProp 𝕄) := by
    refine BIBase.Entails.trans (bs_with (Ψ := fun l : Fin 8 => iprop(|={Set.univ}=> (laneRes X W c l ls0 ∗ okTo c l 2))) fun l _ => ?_) (bigSep_fupd _ _)
    refine BIBase.Entails.trans ?_ (lane_open X W K Ks c l)
    iintro ⟨HC, HB, HR⟩
    isplitl [HC]; · iexact HC
    isplitl [HB]; · iapply (buf_split c l); iexact HB
    iexact HR
  have h2 : ∀ r : Bool, (bigSep Finset.univ fun l : Fin 8 => okTo c l 2 : sProp 𝕄) ⊢ okBar c r := fun r => bigSep_subset (Finset.subset_univ _)
  have h3 : (bigSep (Finset.Ico 0 2) fun d => dutyTok ER (gcell (if d = 0 then rgt c else lft c) cBar) 0 d : sProp 𝕄)
      = iprop(dutyTok ER (gcell (rgt c) cBar) 0 0 ∗ dutyTok ER (gcell (lft c) cBar) 0 1) := by
    rw [bs_head (by decide), bs_one]; rfl
  rw [bigSep_sep', bigSep_sep', bigSep_sep', bigSep_sep', bigSep_sep'] at h1
  unfold stRes linear barLin
  rw [h3]
  iintro ⟨#HC, ⟨⟨⟨D0, D1⟩, HA⟩, HT, HL, HR⟩, Hcr, HCr, HB, Hx, Hw, %f, Ho⟩
  imod h1 $$ [HT HL HR HCr HB] with ⟨HLn, #Hok⟩
  · isplitr; · iexact HC
    isplitl [HB]; · iexact HB
    isplitl [HT]; · iexact HT
    isplitl [HL]; · iexact HL
    isplitl [HR]; · iexact HR
    iexact HCr
  imodintro
  isplitl [D0 D1 HA Hcr]
  · iapply (Entails.of_eq (show _ = (barRes c init.bar : sProp 𝕄) from (if_pos rfl).symm))
    isplitl [D1]; · iexact D1
    isplitl [D0]; · iexact D0
    isplitr; · iapply (h2 true); iexact Hok
    isplitr; · iapply (h2 false); iexact Hok
    isplitl [Hcr]; · iexact Hcr
    iexact HA
  isplitl [HLn]; · iexact HLn
  isplitl [Hx]; · iexact Hx
  isplitl [Hw]; · iexact Hw
  iexists f
  isplitr
  · ipureintro
    intro o ho j
    trivial
  iexact Ho

/-! ## Out -/

theorem cell_zero (c : Dev nD) (x : Cell) (R : ℕ) (hR : ∀ r, R ≤ r → dutiesOf x r = ∅) :
    iprop(Ctx X W K Ks ∗ atPos ER (gcell c x) R ∅ 0) ⊢ (|={Set.univ}=> semVal (gcell c x) 0 : sProp 𝕄) := by
  have h : iprop(cellInv ER (Rd X W) (K (c, x)) (gcell c x) ∗ atPos ER (gcell c x) R ∅ 0) ⊢ (|={Set.univ}=> semVal (gcell c x) 0 : sProp 𝕄) :=
    Rounds.cell_close ER (Rd X W) (Set.mem_univ _) (fun h => h) (fun r hr => (Rd_duties X W c x r).trans (hR r hr))
  iintro ⟨#HC, H⟩
  iapply h
  isplitr
  · iapply (ctx_inv X W K Ks c x); iexact HC
  iexact H

theorem slot_own (c : Dev nD) (l : Fin 8) (s : Fin 3) (x : SlotSt) (h : x.own = true) : slotRes X W c l s x ⊢ slotP (c, l, s) := by
  cases x with
  | gone => cases h
  | any => exact .rfl
  | val k => exact slot_any c l s _
  | half k => cases h
  | raw k => cases h

/-- A lane done: its buffer whole, its semaphores at zero. -/
theorem lane_close (c : Dev nD) (l : Fin 8) (a : LS) (hS : a.kS = last l + 1) (hD : a.kD = last l + 1) (hR : a.kR = last l + 1) (hC : a.kC = last l - 1)
    (h : ∀ s, (a.get s).own = true) :
    iprop(Ctx X W K Ks ∗ laneRes X W c l a)
      ⊢ |={Set.univ}=> iprop(bufL c l ∗ (bigSep Finset.univ fun s : Fin 3 => semVal (gcell c (cSnd l s)) 0) ∗ (bigSep Finset.univ fun s : Fin 3 => semVal (gcell c (cRcv l s)) 0)
        ∗ semVal (gcell c (cCrd l)) 0) := by
  unfold laneRes laneR
  have hc : (crdPos c l a.kC : sProp 𝕄) = atPos ER (gcell c (cCrd l)) 1 ∅ 0 := by unfold crdPos; rw [hC, if_neg (lt_irrefl _)]
  have h1 : iprop(Ctx X W K Ks ∗ bigSep Finset.univ fun s : Fin 3 => atPos ER (gcell c (cSnd l s)) (cntS s a.kD) ∅ 0)
      ⊢ (|={Set.univ}=> bigSep Finset.univ fun s : Fin 3 => semVal (gcell c (cSnd l s)) 0 : sProp 𝕄) :=
    BIBase.Entails.trans (bs_with (Ψ := fun s : Fin 3 => iprop(|={Set.univ}=> semVal (gcell c (cSnd l s)) 0)) fun s _ =>
      cell_zero X W K Ks c (cSnd l s) _ (fun r hr => if_neg (by rw [hD] at hr; unfold cntS at hr; have := s.isLt; omega))) (bigSep_fupd _ _)
  have h2 : iprop(Ctx X W K Ks ∗ bigSep Finset.univ fun s : Fin 3 => atPos ER (gcell c (cRcv l s)) (cntR s a.kR) ∅ 0)
      ⊢ (|={Set.univ}=> bigSep Finset.univ fun s : Fin 3 => semVal (gcell c (cRcv l s)) 0 : sProp 𝕄) :=
    BIBase.Entails.trans (bs_with (Ψ := fun s : Fin 3 => iprop(|={Set.univ}=> semVal (gcell c (cRcv l s)) 0)) fun s _ =>
      cell_zero X W K Ks c (cRcv l s) _ (fun r hr => if_neg (by rw [hR] at hr; unfold cntR at hr; have := s.isLt; omega))) (bigSep_fupd _ _)
  have h3 : (bigSep Finset.univ fun s : Fin 3 => slotRes X W c l s (a.get s) : sProp 𝕄) ⊢ bufL c l :=
    (bs_mono fun s _ => slot_own X W c l s _ (h s)).trans (buf_join c l)
  rw [hc]
  iintro ⟨#HC, -, -, -, -, -, HS, -, HR, -, Hc, -, -, -, Hs⟩
  imod h1 $$ [HS] with HS
  · isplitr; · iexact HC
    iexact HS
  imod h2 $$ [HR] with HR
  · isplitr; · iexact HC
    iexact HR
  imod (cell_zero X W K Ks c (cCrd l) 1 (fun r hr => if_neg (by omega))) $$ [Hc] with Hc
  · isplitr; · iexact HC
    iexact Hc
  imodintro
  isplitl [Hs]; · iapply h3; iexact Hs
  isplitl [HS]; · iexact HS
  isplitl [HR]; · iexact HR
  iexact Hc

theorem body_out (c : Dev nD) (A : St) (hA : endsWell A = true) :
    iprop(Ctx X W K Ks ∗ stRes X W c A)
      ⊢ |={Set.univ}=> iprop((bigSep Finset.univ fun x : Cell => semVal (gcell c x) 0) ∗ (bigSep Finset.univ fun l : Fin 8 => bufL c l)
        ∗ xR c (X c) ∗ wR c (W c) ∗ outR c (outF X W c)) := by
  unfold endsWell at hA
  simp only [Bool.and_eq_true, beq_iff_eq, List.all_eq_true, List.mem_finRange, List.mem_range, true_implies, decide_eq_true_eq] at hA
  obtain ⟨⟨hb, hl⟩, ho⟩ := hA
  have h1 : iprop(Ctx X W K Ks ∗ (bigSep Finset.univ fun l : Fin 8 => laneRes X W c l (A.lane l)))
      ⊢ (|={Set.univ}=> bigSep Finset.univ fun l : Fin 8 => iprop(bufL c l ∗ (bigSep Finset.univ fun s : Fin 3 => semVal (gcell c (cSnd l s)) 0) ∗ (bigSep Finset.univ fun s : Fin 3 => semVal (gcell c (cRcv l s)) 0)
        ∗ semVal (gcell c (cCrd l)) 0) : sProp 𝕄) := by
    refine BIBase.Entails.trans (bs_with (Ψ := fun l : Fin 8 => iprop(|={Set.univ}=> (bufL c l ∗ (bigSep Finset.univ fun s : Fin 3 => semVal (gcell c (cSnd l s)) 0) ∗ (bigSep Finset.univ fun s : Fin 3 => semVal (gcell c (cRcv l s)) 0)
        ∗ semVal (gcell c (cCrd l)) 0))) fun l _ => ?_) (bigSep_fupd _ _)
    obtain ⟨⟨⟨⟨⟨⟨⟨e1, e2⟩, e3⟩, e4⟩, e5⟩, e6⟩, e7⟩, e8⟩ := hl l
    refine lane_close X W K Ks c l (A.lane l) e1 e2 e4 e5 fun s => ?_
    fin_cases s
    · exact e6
    · exact e7
    · exact e8
  rw [bigSep_sep', bigSep_sep', bigSep_sep'] at h1
  unfold stRes
  rw [hb, bs_cells]
  iintro ⟨#HC, Hb, HL, Hx, Hw, %f, %hf, Hf⟩
  have hb3 : (barRes c 3 : sProp 𝕄) = iprop(atPos ER (gcell c cBar) 1 ∅ 0 ∗ okBar (lft c) false ∗ okBar (rgt c) true) := rfl
  ihave Hb := (Entails.of_eq hb3) $$ Hb
  icases Hb with ⟨Hb, -, -⟩
  imod (cell_zero X W K Ks c cBar 1 (fun r hr => if_neg (by omega))) $$ [Hb] with Hb
  · isplitr; · iexact HC
    iexact Hb
  imod h1 $$ [HL] with ⟨HB, HS, HR, Hc⟩
  · isplitr; · iexact HC
    iexact HL
  imodintro
  isplitl [Hb HS HR Hc]
  · isplitl [Hb]; · iexact Hb
    isplitl [HS]; · iexact HS
    isplitl [HR]; · iexact HR
    iexact Hc
  isplitl [HB]; · iexact HB
  isplitl [Hx]; · iexact Hx
  isplitl [Hw]; · iexact Hw
  iapply (Entails.of_eq (congrArg (fun g => (outR c g : sProp 𝕄)) (out_done X W c A (fun o h j => ho o h j) f hf)))
  iexact Hf

end Run

end Cert.Ring

end
-- ==== Proof.Launch.lean ====
/-
# The launch

Every device is dealt its credits; the body's obligation is discharged with the body's run from its first state to its
last; and the launch theorem gives what every fair run of the program ends in.
-/
module

public import Idealize.ShloMosaic.Lib.Pipeline.CollectiveSegs
public import proofs.«01_k».proof.Proof.Entry
public import proofs.«01_k».proof.Proof.Gen.KernelIdeal.Launch
public import Idealize.ShloMosaic.Lib.Pipeline.Launch
public import Idealize.ShloMosaic.Lib.Pipeline.ValueKit.Geometry

@[expose] public section

noncomputable section

namespace Cert.Ring

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot initSlots)

variable {F : FTy → Type} [FloatOps F]

local notation "𝕄" => MT nD τ sig ℕ (Elt F) ℕ UU ℕ

/-! ## Credits -/

/-- The steps that pay another device, kind by kind and lane by lane. -/
def laneSends (l : Fin 8) : List Op := (List.range' 0 (last l + 1)).map (Op.send l)
def laneGrants (l : Fin 8) : List Op := (List.range' 0 (last l - 1)).map (Op.grant l)
def payList : List Op := [.sig true, .sig false] ++ ((List.finRange 8).flatMap laneSends ++ (List.finRange 8).flatMap laneGrants)

def pays : Op → Bool
  | .sig _ => true
  | .send _ _ => true
  | .grant _ _ => true
  | _ => false

theorem pays_perm : (ops.filter pays).isPerm payList = true := by decide +kernel

theorem owed_filter (c : Dev nD) (os : List Op) : owed c (os.filter pays) = owed c os := by
  induction os with
  | nil => rfl
  | cons o os ih =>
    cases h : pays o with
    | true => rw [List.filter_cons_of_pos (by rw [h]), owed_cons, owed_cons, ih]
    | false =>
      rw [List.filter_cons_of_neg (by rw [h]; decide), owed_cons, ih]
      have : owe c o = 0 := by cases o <;> first | rfl | cases h
      rw [this, add_zero]

theorem owed_ops (c : Dev nD) : owed c ops = owed c payList := by
  rw [← owed_filter c ops]
  unfold owed
  exact ((List.isPerm_iff.mp pays_perm).map _).sum_eq

/-- What a device may count on from the like step of the device that pays it. -/
def credOf (c : Dev nD) : Op → sProp 𝕄
  | .sig _ => cred (tallyAt (gcell c cBar) 1 1)
  | .send l k => cred (tallyAt (gcell c (cRcv l (sl (k + 1)))) (labS l k) N)
  | .grant l k => cred (tallyAt (gcell c (cCrd l)) (labG l k) 1)
  | _ => iprop(emp)

def credsL (c : Dev nD) : List Op → sProp 𝕄
  | [] => iprop(emp)
  | o :: os => iprop(credOf c o ∗ credsL c os)

theorem launch_one (c : Dev nD) (o : Op) : (Pipeline.launchCred (fun d => owe d o) c : sProp 𝕄) ⊢ credOf c o := by
  have e : ∀ (T : CellTallies nD τ sig ℕ), T = 0 → (Pipeline.launchCred (fun d : Dev nD => T) c : sProp 𝕄) ⊢ iprop(emp) := fun T hT => by
    subst hT; exact Entails.of_eq (Pipeline.launchCred_zero c)
  cases o with
  | sig r =>
    cases r
    · exact Pipeline.launchCred_tallyAt (enc cBar) lft rgt lft_rgt rgt_lft 1 1 c
    · exact Pipeline.launchCred_tallyAt (enc cBar) rgt lft rgt_lft lft_rgt 1 1 c
  | send l k => exact Pipeline.launchCred_tallyAt (enc (cRcv l (sl (k + 1)))) (dst l) (src l) (dst_src l) (src_dst l) (labS l k) N c
  | grant l k => exact Pipeline.launchCred_tallyAt (enc (cCrd l)) (src l) (dst l) (src_dst l) (dst_src l) (labG l k) 1 c
  | mm o => exact e 0 rfl
  | bar => exact e 0 rfl
  | seed l => exact e 0 rfl
  | credit l => exact e 0 rfl
  | sent l k => exact e 0 rfl
  | recv l k => exact e 0 rfl
  | add l k => exact e 0 rfl
  | comb a b => exact e 0 rfl
  | store l k => exact e 0 rfl

theorem launch_list (c : Dev nD) (os : List Op) : (Pipeline.launchCred (fun d => owed d os) c : sProp 𝕄) ⊢ credsL c os := by
  induction os with
  | nil => exact Entails.of_eq (Pipeline.launchCred_zero c)
  | cons o os ih =>
    have e : (Pipeline.launchCred (fun d => owed d (o :: os)) c : sProp 𝕄)
        = iprop(Pipeline.launchCred (fun d => owed d os) c ∗ Pipeline.launchCred (fun d => owe d o) c) := by
      rw [show (fun d : Dev nD => owed d (o :: os)) = fun d => owed d os + owe d o from funext fun d => owed_cons d o os]
      exact Pipeline.launchCred_add _ _ c
    rw [e]
    unfold credsL
    iintro ⟨H1, H2⟩
    isplitl [H2]
    · iapply (launch_one c o); iexact H2
    · iapply ih; iexact H1

theorem credsL_append (c : Dev nD) (os os' : List Op) : (credsL c (os ++ os') : sProp 𝕄) ⊢ iprop(credsL c os ∗ credsL c os') := by
  induction os with
  | nil =>
    rw [List.nil_append, show (credsL c [] : sProp 𝕄) = iprop(emp) from rfl]
    iintro H
    isplitr; · iempintro
    iexact H
  | cons o os ih =>
    rw [List.cons_append, show (credsL c (o :: (os ++ os')) : sProp 𝕄) = iprop(credOf c o ∗ credsL c (os ++ os')) from rfl,
      show (credsL c (o :: os) : sProp 𝕄) = iprop(credOf c o ∗ credsL c os) from rfl]
    iintro ⟨H1, H2⟩
    ihave H := ih $$ H2
    icases H with ⟨H2, H3⟩
    isplitr [H3]
    · isplitl [H1] <;> iassumption
    iexact H3

theorem credsL_flat (c : Dev nD) (f : Fin 8 → List Op) : (credsL c ((List.finRange 8).flatMap f) : sProp 𝕄) ⊢ bigSep Finset.univ fun l : Fin 8 => credsL c (f l) := by
  rw [bigSep_univ_eq_bigSepL [(0 : Fin 8), 1, 2, 3, 4, 5, 6, 7] (by decide) (by decide) (fun l : Fin 8 => (credsL c (f l) : sProp 𝕄)),
    show (List.finRange 8).flatMap f = f 0 ++ (f 1 ++ (f 2 ++ (f 3 ++ (f 4 ++ (f 5 ++ (f 6 ++ (f 7 ++ []))))))) from rfl]
  have h1 := fun os os' => credsL_append (F := F) c os os'
  show _ ⊢ iprop(credsL c (f 0) ∗ credsL c (f 1) ∗ credsL c (f 2) ∗ credsL c (f 3) ∗ credsL c (f 4) ∗ credsL c (f 5) ∗ credsL c (f 6) ∗ credsL c (f 7))
  refine (h1 _ _).trans (sep_mono_right ?_)
  refine (h1 _ _).trans (sep_mono_right ?_)
  refine (h1 _ _).trans (sep_mono_right ?_)
  refine (h1 _ _).trans (sep_mono_right ?_)
  refine (h1 _ _).trans (sep_mono_right ?_)
  refine (h1 _ _).trans (sep_mono_right ?_)
  refine (h1 _ _).trans (sep_mono_right ?_)
  rw [List.append_nil]

theorem credsL_range (c : Dev nD) (g : ℕ → Op) (n : ℕ) : ∀ a, (credsL c ((List.range' a n).map g) : sProp 𝕄) ⊢ bigSep (Finset.Ico a (a + n)) fun k => credOf c (g k) := by
  induction n with
  | zero => intro a; rw [Nat.add_zero, bs_nil]; exact .rfl
  | succ n ih =>
    intro a
    rw [bs_head (by omega), List.range'_succ, List.map_cons, show a + (n + 1) = a + 1 + n by omega]
    unfold credsL
    exact sep_mono_right (ih (a + 1))

/-- A device's credits at launch. -/
theorem creds (c : Dev nD) : (Pipeline.launchCred (fun d => owed d ops) c : sProp 𝕄)
    ⊢ iprop(cred (tallyAt (gcell c cBar) 1 2) ∗ bigSep Finset.univ fun l : Fin 8 => laneCr c l) := by
  have hS : ∀ l : Fin 8, (credsL c (laneSends l) : sProp 𝕄) ⊢ bigSep (Finset.Ico 0 (last l + 1)) fun k => cred (tallyAt (gcell c (cRcv l (sl (k + 1)))) (labS l k) N) := fun l => by
    have h := credsL_range (F := F) c (Op.send l) (last l + 1) 0
    rw [Nat.zero_add] at h; exact h
  have hG : ∀ l : Fin 8, (credsL c (laneGrants l) : sProp 𝕄) ⊢ bigSep (Finset.Ico 0 (last l - 1)) fun k => cred (tallyAt (gcell c (cCrd l)) (labG l k) 1) := fun l => by
    have h := credsL_range (F := F) c (Op.grant l) (last l - 1) 0
    rw [Nat.zero_add] at h; exact h
  have h2 : iprop(cred (tallyAt (gcell c cBar) 1 1) ∗ cred (tallyAt (gcell c cBar) 1 1)) ⊢ (cred (tallyAt (gcell c cBar) 1 2) : sProp 𝕄) := by
    have h := (cred_add (nD := nD) (τ := τ) (sig := sig) (Ix := ℕ) (Val := Elt F) (Name := ℕ) (U := UU) (Lvl := ℕ) (tallyAt (gcell c cBar) 1 1) (tallyAt (gcell c cBar) 1 1)).2
    rw [tallyAt_add] at h
    exact h
  have e : (fun d : Dev nD => owed d ops) = fun d => owed d payList := funext owed_ops
  rw [e]
  refine (launch_list c payList).trans ?_
  unfold payList laneCr
  rw [bigSep_sep']
  iintro H
  ihave H := (credsL_append c [.sig true, .sig false] _) $$ H
  icases H with ⟨HB, H⟩
  ihave H := (credsL_append c _ _) $$ H
  icases H with ⟨HS, HG⟩
  ihave HS := (credsL_flat c laneSends) $$ HS
  ihave HG := (credsL_flat c laneGrants) $$ HG
  ihave HB := (Entails.of_eq (show credsL c [.sig true, .sig false]
    = iprop(cred (tallyAt (gcell c cBar) 1 1) ∗ cred (tallyAt (gcell c cBar) 1 1) ∗ emp) from rfl)) $$ HB
  icases HB with ⟨B1, B2, -⟩
  isplitl [B1 B2]
  · iapply h2
    isplitl [B1] <;> iassumption
  isplitl [HS]
  · iapply (bs_mono fun l _ => hS l); iexact HS
  · iapply (bs_mono fun l _ => hG l); iexact HG

/-! ## The body's obligation -/

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-- A device's blocks of the two operands. -/
def xOf (c : Dev nD) : Vec F S2048x128 .bf16 := (win0_0.blk (0 : Fin 1)).view.read (Elt F) ((s₀ m ρ).mem ((c : Thread nD τ).loc main_arg0))
def wOf (c : Dev nD) : Vec F S128x2048 .bf16 := (win0_1.blk (0 : Fin 1)).view.read (Elt F) ((s₀ m ρ).mem ((c : Thread nD τ).loc main_arg1))
/-- A device's result. -/
def outOf (c : Dev nD) : S2048x2048.Idx → Elt F .f32 := outF (xOf m ρ) (wOf m ρ) c

def O₀ (c : Dev nD) : CellTallies nD τ sig ℕ := owed c ops

/-- What a device starts with, its scratch buffers apart. -/
def start (c : Dev nD) : sProp 𝕄 :=
  iprop(G' (xOf m ρ) (wOf m ρ) c ∗ cred (tallyAt (gcell c cBar) 1 2) ∗ (bigSep Finset.univ fun l : Fin 8 => laneCr c l) ∗ Lev)
def Φ₀ (c : Dev nD) : sProp 𝕄 := iprop(start m ρ c ∗ bigSep Finset.univ fun l : Fin 8 => bufL c l)
def Φ₁ (c : Dev nD) : sProp 𝕄 := iprop((bigSep Finset.univ fun x : Cell => semVal (gcell c x) 0) ∗ bigSep Finset.univ fun l : Fin 8 => bufL c l)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xOf m ρ c
    | ⟨1, _⟩ => wOf m ρ c
    | ⟨2, _⟩ => outOf m ρ c
    | ⟨_ + 3, h⟩ => absurd h (Nat.not_lt.2 (Nat.le_add_left _ _))
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_all (c : Dev nD) (b : Ref sig .tc) (V : b.ty.Contents (Elt F)) :
    (owns (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ m ρ c
    ∗ (dats m ρ 0 c).owesAt (0 : ℕ) t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt (0 : ℕ) t0_0.succ ∗ stg c cc0_stg0_0 (xOf m ρ c) ∗ stg c cc0_stg1_0 (wOf m ρ c) ∗ stg c cc0_stg2_0 (outOf m ρ c))

theorem before_x (c : Dev nD) (d) : (dats m ρ 0 c).before (0 : Fin 3) t0_0 d = xOf m ρ c := by
  unfold Dat.before; rw [if_pos (fetch0_0 t0_0)]; rfl
theorem before_w (c : Dev nD) (d) : (dats m ρ 0 c).before (1 : Fin 3) t0_0 d = wOf m ρ c := by
  unfold Dat.before; rw [if_pos (fetch0_1 t0_0)]; rfl

theorem at_device (c : Dev nD) (os : List Op) (Q : sProp 𝕄) : WP c (runAll (F := F) c os) Q ⊢ WP c (Prog.lift .deviceId >>= fun c => runAll (F := F) c os) Q := by
  simp only [Prog.lift, Prog.bind_op, Prog.bind_ret, wp_deviceId]
  exact .rfl
theorem up_post (c : Dev nD) (os : List Op) (Q : sProp 𝕄) : WP c (runAll (F := F) c os) iprop(|={Set.univ}=> Q) ⊢ WP c (runAll (F := F) c os) Q :=
  wp_fupd _ _ _ _ _

/-- The body from what the launch hands a device to what the device hands back. -/
theorem run_body (c : Dev nD) : bodyPre m ρ c ⊢ WP c (Prog.lift .deviceId >>= fun c => runAll (F := F) c ops) (bodyPost m ρ c) := by
  obtain ⟨A, hA, hW⟩ : ∃ A, exec ops init = some A ∧ endsWell A = true := by
    have h := accepted
    cases e : exec ops init with
    | none => rw [e] at h; cases h
    | some A => rw [e] at h; exact ⟨A, rfl, h⟩
  unfold bodyPre
  simp only [before_x, before_w]
  unfold Φ₀ start G' Dat.owesAt Pipeline.owesWithin
  rw [show (dats m ρ 0 c).owed t0_0.castSucc = owed c ops from rfl]
  iintro ⟨⟨⟨⟨%K, %Ks, HK, HL⟩, Hb, HC, HLev⟩, HB⟩, ⟨%U, %hU, HO⟩, ⟨%d0, %f0, %e0, Hx⟩, ⟨%d1, %f1, %e1, Hw⟩, ⟨%d2, %f2, %e2, Ho⟩⟩
  subst e0 e1
  ihave #Hctx : (Ctx (xOf m ρ) (wOf m ρ) K Ks) $$ [HK HLev]
  · unfold Known Ctx
    icases HK with ⟨H1, H2, H3⟩
    isplitl [H1]; · iexact H1
    isplitl [H2]; · iexact H2
    isplitl [H3]; · iexact H3
    iexact HLev
  iapply (at_device c ops _)
  iapply (up_post c ops _)
  imod (body_in (xOf m ρ) (wOf m ρ) K Ks c) $$ [HL Hb HC HB Hx Hw Ho] with HS
  · isplitr; · iexact Hctx
    isplitl [HL]; · iexact HL
    isplitl [Hb]; · iexact Hb
    isplitl [HC]; · iexact HC
    isplitl [HB]; · iexact HB
    isplitl [Hx]; · unfold xR; iexact Hx
    isplitl [Hw]; · unfold wR; iexact Hw
    iexists f2
    unfold outR; iexact Ho
  iapply (exec_ok (xOf m ρ) (wOf m ρ) K Ks c _ ops init A hA) $$ [HO HS]
  · isplitr; · iexact Hctx
    isplitl [HO]
    · unfold owesA; iexists U; iexact HO
    iexact HS
  iintro ⟨HO, HS⟩
  imod (body_out (xOf m ρ) (wOf m ρ) K Ks c A hW) $$ [HS] with ⟨Hz, HB, Hx, Hw, Ho⟩
  · isplitr; · iexact Hctx
    iexact HS
  imodintro
  unfold bodyPost Φ₁ Dat.owesAt Pipeline.owesWithin owesA
  icases HO with ⟨%U', HO⟩
  isplitl [Hz HB]
  · isplitl [Hz] <;> iassumption
  isplitl [HO]
  · iexists U'
    isplitr; · ipureintro; exact fun _ _ => Or.inl trivial
    iexact HO
  isplitl [Hx]
  · iexists (xOf m ρ c)
    isplitr; · (ipureintro; rfl)
    unfold xR; iexact Hx
  isplitl [Hw]
  · iexists (wOf m ρ c)
    isplitr; · (ipureintro; rfl)
    unfold wR; iexact Hw
  iexists (outOf m ρ c)
  isplitr; · (ipureintro; rfl)
  unfold outR outOf; iexact Ho

/-- What the pipeline runs at its one point. -/
theorem body_prog : defs₀ (F := F) .tc cfg0.body (cfg0.bodyArgs t0_0 (cfg0.slots t0_0)) = Prog.lift .deviceId >>= fun c => runAll (F := F) c ops :=
  (show _ = cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 from rfl).trans body_eq

theorem bs_windows (Φ : Fin cfg0.W → sProp 𝕄) : bigSep Finset.univ Φ = iprop(Φ (0 : Fin 3) ∗ Φ (1 : Fin 3) ∗ Φ (2 : Fin 3)) := bigSep_W0 Φ

set_option maxRecDepth 4000 in
/-- The library's body obligation on a device. -/
theorem body_obligation (c : Dev nD) : BodyObligation (dats (F := F) m ρ 0 c) (defs₀ (F := F)) 𝒱₀ (0 : ℕ) Set.univ := fun t => by
  have h := run_body (F := F) m ρ c
  rw [fin_N0 t]
  rw [bs_windows, bs_windows]
  simp only [owns_all]
  rw [body_prog]
  generalize (Prog.lift .deviceId >>= fun c => runAll (F := F) c ops : PR F PUnit) = p at h ⊢
  exact h

/-! ## The launch's side conditions -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf cellsAll toksAll, Release.initSlots (Finset.univ : Finset Key) 6))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xOf m ρ) (wOf m ρ) c)
      ⊢ |={Set.univ}=> iprop(start m ρ c ∗ emp) := by
  iintro ⟨-, Hlev, Hcr, -, HG⟩
  ihave Hc := (show (Pipeline.launchCred O₀ c : sProp 𝕄) ⊢ _ from creds (F := F) c) $$ Hcr
  icases Hc with ⟨H1, HN⟩
  imodintro
  unfold start
  isplitl
  · isplitl [HG]; · iexact HG
    isplitl [H1]; · iexact H1
    isplitl [HN]; · iexact HN
    unfold Lev; iexact Hlev
  · iempintro

theorem bufs_eq (c : Dev nD) : (Pipeline.scopedRest (Ix := ℕ) (Name := ℕ) (U := UU) (Lvl := ℕ) (Val := Elt F) cfg0.spec c : sProp 𝕄) = bigSep Finset.univ fun l : Fin 8 => bufL c l :=
  (scopedRest0_eq c).trans (bigSep_univ_eq_bigSepL [(0 : Fin 8), 1, 2, 3, 4, 5, 6, 7] (by decide) (by decide) (fun l : Fin 8 => (bufL c l : sProp 𝕄))).symm

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  rw [← sems_eq]
  iintro ⟨⟨H1, H2⟩, Hr⟩
  isplitl [H2]; · iexact H2
  isplitl [H1] <;> iassumption

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    have h0 := mayWait (F := F) c (.dma ((cfg0.win w).sem s)) 0 ops (by decide) (by decide +kernel)
    have h1 := mayWait (F := F) c (.dma ((cfg0.win w).sem s)) 0 [] (by decide) rfl
    rcases t with ⟨_ | _, ht⟩
    · exact h0
    · exact h1

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

theorem hu_piece : (BI.own (embR ((initOf cellsAll toksAll, Release.initSlots (Finset.univ : Finset Key) 6) : UX)) : sProp 𝕄) ⊢ bigSep Finset.univ (G (F := F)) := by
  refine BIBase.Entails.trans ?_ G_intro
  unfold piece ER EK
  exact own_pair_emb _ _ _

set_option maxRecDepth 100000 in
/-- For any float values, from any memory with every semaphore at zero: every weakly fair execution of the program
    ends, each device's result array holding what the body leaves, its operands unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' (xOf m ρ) (wOf m ρ)) (u₀ := u₀)
    (hu₀ := by
      unfold u₀
      iintro Hu
      ihave H := (ownU_pair _ _) $$ Hu
      icases H with ⟨HP, HX⟩
      ihave HG := (hu_piece (F := F)) $$ HX
      imodintro
      isplitl [HP] <;> iassumption)
    (hglob := glob (xOf m ρ) (wOf m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold after the run -/

theorem done_x (c : Dev nD) : (dats m ρ 0 c).arrAt (0 : Fin 3) cfg0.N = (s₀ m ρ).mem ((c : Thread nD τ).loc main_arg0) :=
  (dats (F := F) m ρ 0 c).arrAt_in (0 : Fin 3) rfl _
theorem done_w (c : Dev nD) : (dats m ρ 0 c).arrAt (1 : Fin 3) cfg0.N = (s₀ m ρ).mem ((c : Thread nD τ).loc main_arg1) :=
  (dats (F := F) m ρ 0 c).arrAt_in (1 : Fin 3) rfl _

/-- A whole operand is what a device's body reads. -/
theorem xOf_eq (c : Dev nD) : xOf m ρ c = m ((c : Thread nD τ).loc main_arg0) := by
  funext i
  refine congrArg (m ((c : Thread nD τ).loc main_arg0)) (?_ : (win0_0.blk (0 : Fin 1)).view.emb i = i)
  have h0 : ∀ a, win0_0.index (0 : Fin 1) a = 0 := by decide +kernel
  funext a; apply Fin.ext
  exact win0_0.rect_emb_val_of_index_zero _ _ (h0 a) i
theorem wOf_eq (c : Dev nD) : wOf m ρ c = m ((c : Thread nD τ).loc main_arg1) := by
  funext i
  refine congrArg (m ((c : Thread nD τ).loc main_arg1)) (?_ : (win0_1.blk (0 : Fin 1)).view.emb i = i)
  have h0 : ∀ a, win0_1.index (0 : Fin 1) a = 0 := by decide +kernel
  funext a; apply Fin.ext
  exact win0_1.rect_emb_val_of_index_zero _ _ (h0 a) i

/-- The result array ends holding what the body leaves. -/
theorem done_out (c : Dev nD) : (dats m ρ 0 c).arrAt (2 : Fin 3) cfg0.N = outOf m ρ c :=
  (dats (F := F) m ρ 0 c).arrAt_eq_of_after_last (2 : Fin 3) t0_0 (by decide +kernel) (outOf m ρ c) (fun j => rfl)

end Cert.Ring

end
-- ==== Proof.Same.lean ====
/-
# The two programs

The kernel as printed and the kernel for exact arithmetic have the same text, so they run the same body.
-/
module

public import proofs.«01_k».proof.Proof.Ops
public import proofs.«01_k».proof.Proof.Gen.Kernel

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

set_option maxRecDepth 100000 in
/-- The printed kernel's body runs the same steps. -/
theorem kernel_body_eq :
    (Cert.Kernel.cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 : PR F PUnit)
      = Prog.lift .deviceId >>= fun c => runAll c ops := by
  chain_rfl

theorem kernel_body :
    (Cert.Kernel.cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 : PR F PUnit)
      = cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 := kernel_body_eq.trans body_eq.symm

/-- The two programs' bodies are one table. -/
theorem kernel_defs₀ : Cert.Kernel.defs₀ (F := F) = defs₀ (F := F) := by
  funext κ ℓ a
  cases κ with
  | tc =>
    match ℓ, a with
    | ⟨0, _⟩, (t, s) =>
      have hs : s = fun w => ⟨0, by fin_cases w <;> decide⟩ := by
        funext w; apply Fin.ext
        fin_cases w
        · exact Nat.lt_one_iff.mp (s (0 : Fin 3)).isLt
        · exact Nat.lt_one_iff.mp (s (1 : Fin 3)).isLt
        · exact Nat.lt_one_iff.mp (s (2 : Fin 3)).isLt
      subst hs
      exact kernel_body
    | ⟨_ + 1, h⟩, _ => exact absurd h (Nat.not_lt.2 (Nat.le_add_left _ _))
  | _ => rfl

theorem kernel_defs : Cert.Kernel.defs (F := F) = defs (F := F) := congrArg (Pipeline.defs pcfgs) kernel_defs₀

/-- What a run of the program for exact arithmetic ends in, a run of the printed program ends in. -/
theorem kernel_run (s : MemSt nD τ sig (Elt F)) (P : PUnit × MemSt nD τ sig (Elt F) → Prop)
    (h : θ_run (defs (F := F)) (onTc (τ := τ) (main (F := F))) s P) :
    θ_run (Cert.Kernel.defs (F := F)) (onTc (τ := Cert.Kernel.τ) (Cert.Kernel.main (F := F))) s P := by
  have e := kernel_defs (F := F)
  generalize Cert.Kernel.defs (F := F) = d at e ⊢
  subst e
  exact h

end Cert.Ring

end
-- ==== Proof.Alg.lean ====
/-
# What the result is, in exact arithmetic

Over the extended reals a change of format is the identity, so what travels on a lane is a sum of devices' products, a
finished block is the activation of the sum over all sixteen devices, and that sum is the whole product. Every block of
every device's result is the finished block of some device at that block's place.
-/
module

public import proofs.«01_k».proof.Proof.Entry
public import Idealize.ShloMosaic.PureOps.Ideal
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.Ring

open Cert.KernelIdeal Cert.KernelIdeal.Gen
open Idealize.ShloMosaic Idealize.ShloMosaic.TcCoe Idealize.ShloMosaic.ValueIdx
open Idealize.SL Idealize.SL.Sem
open scoped BigOperators

/-- An array of extended reals. -/
abbrev Mat (s : Shape) : Type := s.Idx → EReal

/-! ## Payloads -/

/-- A lane's message as a block. -/
def flat (z : Vec Ideal S1x128x512 .bf16) : Mat S128x512 := shapeCast S128x512 z shapeCasts_S1x128x512_S128x512

theorem flat_seed (y : Vec Ideal S128x512 .f32) : flat (seedV y) = y := by
  unfold flat seedV k0_pay8
  rw [shapeCast_shapeCast, shapeCast_self]
  rfl

theorem flat_add (z : Vec Ideal S1x128x512 .bf16) (y : Vec Ideal S128x512 .f32) (i : S128x512.Idx) :
    flat (addV z y) i = flat z i + y i := by
  unfold flat addV k0_pay32
  rw [shapeCast_shapeCast, shapeCast_self]
  rfl

theorem flat_pack (g : FVec Ideal S128x512 .f32) : flat (packV g) = g := by
  unfold flat packV k0_pay110 k0_pay109
  rw [shapeCast_shapeCast]
  rfl

theorem wide_flat (z : Vec Ideal S1x128x512 .bf16) : wideV z = flat z := rfl

/-- The three constants of the activation. -/
def half : EReal := Ideal.ofBits .f32 0x3F000000#32
def cub : EReal := Ideal.ofBits .f32 0x3D372713#32
def rt : EReal := Ideal.ofBits .f32 0x3F4C422A#32
def one : EReal := Ideal.ofBits .f32 0x3F800000#32

/-- The activation of one number. -/
def act (y : EReal) : EReal := half * y * (one + Ideal.tanh (rt * (y + cub * (y * y * y))))

theorem act_flat (a b : Vec Ideal S1x128x512 .bf16) (y : Vec Ideal S128x512 .f32) (i : S128x512.Idx) :
    actV a b y i = act (flat a i + flat b i + y i) := by
  have h : actV a b y i = (let s : EReal := flat a i + flat b i + shapeCast S128x512 y shapeCasts_S128x512_S128x512 i;
      half * s * (one + Ideal.tanh (rt * (s + cub * s * s * s)))) := rfl
  rw [h, shapeCast_self]
  unfold act
  simp only [mul_assoc]

/-! ## Products -/

section Products

variable (A B : Mat ⟨2, ![2048, 2048]⟩)

/-- Column `k` of device `d`'s block of `x`, in the whole array. -/
def at128 (d : Fin 16) (k : Fin 128) : Fin 2048 := ⟨128 * d.val + k.val, by have := d.isLt; have := k.isLt; omega⟩

/-- Device `d`'s term of the product, and the whole product. -/
def term (d : Fin 16) (p : S2048x2048.Idx) : EReal := ∑ k : Fin 128, A (ix2 (p 0) (at128 d k)) * B (ix2 (at128 d k) (p 1))
def prod (p : S2048x2048.Idx) : EReal := ∑ k : Fin 2048, A (ix2 (p 0) k) * B (ix2 k (p 1))

theorem sum_term (p : S2048x2048.Idx) : ∑ d : Fin 16, term A B d p = prod A B p := by
  unfold term prod
  refine (Fintype.sum_prod_type' (fun (d : Fin 16) (k : Fin 128) => A (ix2 (p 0) (at128 d k)) * B (ix2 (at128 d k) (p 1)))).symm.trans ?_
  refine Eq.trans ?_ (Equiv.sum_comp (finProdFinEquiv (m := 16) (n := 128)) (fun k : Fin (16 * 128) => A (ix2 (p 0) k) * B (ix2 k (p 1))))
  refine Finset.sum_congr rfl fun x _ => ?_
  have e : (finProdFinEquiv x : Fin (16 * 128)) = at128 x.1 x.2 := Fin.ext (by
    show x.2.val + 128 * x.1.val = 128 * x.1.val + x.2.val
    omega)
  rw [e]

/-- The devices' blocks of the two operands. -/
def Blocks (X : Dev nD → Vec Ideal S2048x128 .bf16) (W : Dev nD → Vec Ideal S128x2048 .bf16) : Prop :=
  (∀ (d : Fin 16) (r : Fin 2048) (k : Fin 128), X d (ix2 r k) = A (ix2 r (at128 d k)))
  ∧ ∀ (d : Fin 16) (k : Fin 128) (s : Fin 2048), W d (ix2 k s) = B (ix2 (at128 d k) s)

variable {A B} {X : Dev nD → Vec Ideal S2048x128 .bf16} {W : Dev nD → Vec Ideal S128x2048 .bf16}

theorem zero_bits : Ideal.ofBits .f32 0x00000000#32 = 0 := by simp [Ideal.ofBits, Ideal.ieee]

theorem mmV_at (x : Vec Ideal S128x128 .bf16) (w : Vec Ideal S128x2048 .bf16) (r : Fin 128) (s : Fin 2048) :
    mmV x w (ix2 r s) = ∑ k : Fin 128, (x (ix2 r k) : EReal) * (w (ix2 k s) : EReal) := by
  have h : mmV x w (ix2 r s) = FloatOps.matmul (F := Ideal) (DotDims.plain 128 128 2048) none
      (shapeCast S128x128 x shapeCasts_S128x128_S128x128) (shapeCast S128x2048 w shapeCasts_S128x2048_S128x2048)
      (constant S128x2048 .f32 0x00000000#32) (ix2 r s) := rfl
  rw [h, Ideal.matmul_plain_apply, shapeCast_self, shapeCast_self]
  show Ideal.ofBits .f32 0x00000000#32 + _ = _
  rw [zero_bits, zero_add]

theorem acc_at (h : Blocks A B X W) (c : Dev nD) (r : Fin 16) (j : Fin 4) (i : S128x512.Idx) :
    accB X W c r j i = term A B c (bIx r j i) := by
  unfold accB term
  have e : pIx j i = ix2 (⟨(i 0).val, (i 0).isLt⟩ : Fin 128) (⟨512 * j.val + (i 1).val, by have h : (i 1).val < 512 := (i 1).isLt; have := j.isLt; omega⟩ : Fin 2048) := by
    funext a; apply Fin.ext; fin_cases a <;> rfl
  rw [e, mmV_at]
  refine Finset.sum_congr rfl fun k _ => ?_
  have e1 : xIx r (ix2 (⟨(i 0).val, (i 0).isLt⟩ : Fin 128) k) = ix2 (bIx r j i 0) k := by
    funext a; apply Fin.ext; fin_cases a <;> rfl
  rw [e1]
  exact congrArg₂ (· * ·) (h.1 c _ k) (h.2 c k _)

end Products

/-! ## The ring -/

/-- The relative row block of a lane's message. -/
def hopR (l : Fin 8) : ℕ → ℕ
  | 0 => seedO l
  | k + 1 => hopO l k

theorem hop_row (c : Dev nD) (l : Fin 8) (k : ℕ) (hk : k < far l) : rowF c (hopR l (k + 1)) = rowF (src l c) (hopR l k) := by
  have h : ∀ c : Dev nD, ∀ l : Fin 8, ∀ k : Fin 8, k.val < far l → rowF c (hopR l (k.val + 1)) = rowF (src l c) (hopR l k.val) := by decide +kernel
  exact h c l ⟨k, by unfold far at hk; split at hk <;> omega⟩ hk

theorem last_row (c : Dev nD) (l : Fin 8) : rowF (src l c) (hopR l (far l - 1)) = rowF c 8 := by
  have h : ∀ c : Dev nD, ∀ l : Fin 8, rowF (src l c) (hopR l (far l - 1)) = rowF c 8 := by decide +kernel
  exact h c l

section Values

variable {A B : Mat ⟨2, ![2048, 2048]⟩} {X : Dev nD → Vec Ideal S2048x128 .bf16} {W : Dev nD → Vec Ideal S128x2048 .bf16}

/-- A message on its `k`-th hop is the sum of the products of the `k + 1` devices it has passed. -/
theorem part_at (h : Blocks A B X W) (l : Fin 8) (i : S128x512.Idx) (k : ℕ) (hk : k < far l) (c : Dev nD) :
    flat (part X W l k c) i = ∑ t ∈ Finset.range (k + 1), term A B ((src l)^[t] c) (bIx (rowF c (hopR l k)) (col l) i) := by
  induction k generalizing c with
  | zero =>
    rw [show part X W l 0 c = seedV (acc X W c (seedO l) (col l)) from rfl, flat_seed]
    simp only [zero_add, Finset.range_one, Finset.sum_singleton, Function.iterate_zero_apply]
    exact acc_at h c _ _ i
  | succ k ih =>
    rw [show part X W l (k + 1) c = addV (part X W l k (src l c)) (acc X W c (hopO l k) (col l)) from rfl, flat_add,
      ih (by omega) (src l c), Finset.sum_range_succ' _ (k + 1), ← hop_row c l k (by omega)]
    exact congrArg₂ (· + ·) rfl (acc_at h c _ _ i)

/-- A device and the fifteen on the way round, both ways, are all sixteen. -/
theorem around (j : Fin 4) (c : Dev nD) :
    (((List.range 8).map fun t => (src (longL j))^[t + 1] c) ++ ((List.range 7).map fun t => (src (shortL j))^[t + 1] c) ++ [c]).Perm
      (List.finRange 16) := by
  have h : ∀ j : Fin 4, ∀ c : Dev nD,
    (((List.range 8).map fun t => (src (longL j))^[t + 1] c) ++ ((List.range 7).map fun t => (src (shortL j))^[t + 1] c) ++ [c]).Perm
      (List.finRange 16) := by decide +kernel
  exact h j c

theorem around_sum (j : Fin 4) (c : Dev nD) (f : Fin 16 → EReal) :
    (∑ t ∈ Finset.range 8, f ((src (longL j))^[t + 1] c)) + (∑ t ∈ Finset.range 7, f ((src (shortL j))^[t + 1] c)) + f c = ∑ d : Fin 16, f d := by
  have h := ((around j c).map f).sum_eq
  rw [List.map_append, List.map_append, List.sum_append, List.sum_append, List.map_map, List.map_map] at h
  rw [show (∑ d : Fin 16, f d) = ((List.finRange 16).map f).sum from (List.sum_ofFn (f := f)).symm.trans (congrArg List.sum (List.ofFn_eq_map (f := f))), ← h]
  simp only [List.map_cons, List.map_nil, List.sum_cons, List.sum_nil, add_zero]
  rfl

theorem long_far (j : Fin 4) : far (longL j) = 8 ∧ far (shortL j) = 7 ∧ col (longL j) = j ∧ col (shortL j) = j := by
  have h : ∀ j : Fin 4, far (longL j) = 8 ∧ far (shortL j) = 7 ∧ col (longL j) = j ∧ col (shortL j) = j := by decide +kernel
  exact h j

/-- A finished block is the activation of the product. -/
theorem fin_at (h : Blocks A B X W) (j : Fin 4) (c : Dev nD) (i : S128x512.Idx) :
    fin X W j c i = act (prod A B (bIx (rowF c 8) j i)) := by
  obtain ⟨h1, h2, h3, h4⟩ := long_far j
  have r1 := last_row c (longL j)
  have r2 := last_row c (shortL j)
  rw [h1] at r1; rw [h2] at r2
  unfold fin
  rw [act_flat, part_at h (longL j) i 7 (by omega), part_at h (shortL j) i 6 (by omega), h3, h4, r1, r2, ← sum_term,
    ← around_sum j c (fun d => term A B d (bIx (rowF c 8) j i))]
  exact congrArg act (congrArg₂ (· + ·) rfl (acc_at h c _ _ i))

/-- Where each block of a device's result comes from. -/
theorem want_from (c : Dev nD) (o : ℕ) (ho : o < 16) (j : Fin 4) :
    match want o j with
    | .C => o = 8
    | .S l k => far l ≤ k ∧ col l = j ∧ rowF ((src l)^[k - far l] c) 8 = rowF c o
    | _ => False := by
  have h : ∀ c : Dev nD, ∀ o : Fin 16, ∀ j : Fin 4, (match want o.val j with
    | .C => decide (o.val = 8)
    | .S l k => decide (far l ≤ k ∧ col l = j ∧ rowF ((src l)^[k - far l] c) 8 = rowF c o.val)
    | _ => false) = true := by decide +kernel
  have h' := h c ⟨o, ho⟩ j
  generalize want o j = x at h' ⊢
  cases x <;> simpa using h'

theorem want_at (h : Blocks A B X W) (c : Dev nD) (o : ℕ) (ho : o < 16) (j : Fin 4) (i : S128x512.Idx) :
    wantV X W c o j i = act (prod A B (bIx (rowF c o) j i)) := by
  have hw := want_from c o ho j
  unfold wantV
  generalize want o j = x at hw ⊢
  cases x with
  | C => subst hw; exact fin_at h j c i
  | S l k =>
    obtain ⟨h1, h2, h3⟩ := hw
    show wideV (val X W l k c) i = _
    rw [wide_flat]
    unfold val
    rw [if_neg (Nat.not_lt.2 h1), flat_pack, h2, fin_at h, h3]
  | U => exact hw.elim
  | A => exact hw.elim

/-- A device's result is the activation of the whole product. -/
theorem out_at_all (h : Blocks A B X W) (c : Dev nD) : outF X W c = fun p => act (prod A B p) := by
  funext p
  obtain ⟨⟨o, j, i⟩, ho, rfl⟩ := out_index c p
  exact (outF_at X W c o ho j i).trans (want_at h c o ho j i)

end Values

end Cert.Ring

end
-- ==== Proof.Value.lean ====
/-
# The two results agree

The reference's result, in exact arithmetic, is the activation of the whole product; so is every device's result of the
kernel, whose operands are the devices' blocks of the reference's.
-/
module

public import proofs.«01_k».proof.Proof.Alg
public import proofs.«01_k».proof.Proof.Launch
public import proofs.«01_k».proof.Proof.Gen.ReferenceIdeal.Run

@[expose] public section

noncomputable section

namespace Cert.Ring

open Idealize.ShloMosaic Idealize.ShloMosaic.TcCoe Idealize.ShloMosaic.ValueIdx
open Idealize.SL.Sem

section Reference

open Cert.ReferenceIdeal Cert.ReferenceIdeal.Gen

/-- The reference's composed term of its operands. -/
def refOut (A B : Mat ⟨2, ![2048, 2048]⟩) : Mat ⟨2, ![2048, 2048]⟩ :=
  let y : FVec Ideal S2048x2048 .f32 := Host.dotGeneral (F := Ideal) (φ₁ := .bf16) (φ₂ := .bf16) dot_S2048x2048_S2048x2048_S2048x2048_1_0_0_1_n_n none A B
  mulf (mulf (broadcastInDim S2048x2048 ![] bcast_S_S2048x2048 (constant S_ .f32 0x3F000000#32)) y)
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf y (mulf (broadcastInDim S2048x2048 ![] bcast_S_S2048x2048 (constant S_ .f32 0x3D372713#32)) (mulf (mulf y y) y))))))

theorem ref_prod (A B : Mat ⟨2, ![2048, 2048]⟩) (p : Fin 2048) (q : Fin 2048) :
    Host.dotGeneral (F := Ideal) (φ₁ := .bf16) (φ₂ := .bf16) dot_S2048x2048_S2048x2048_S2048x2048_1_0_0_1_n_n none A B (ix2 p q) = prod A B (ix2 p q) :=
  StackMember.dotGeneral_plain_apply (m := 2048) (k := 2048) (n := 2048) (φ₁ := .bf16) (φ₂ := .bf16) none A B p q

theorem ref_at (A B : Mat ⟨2, ![2048, 2048]⟩) : refOut A B = fun p => act (prod A B p) := by
  funext p
  have e : p = ix2 (p 0 : Fin 2048) (p 1 : Fin 2048) := by
    funext a; apply Fin.ext; fin_cases a <;> rfl
  have h : refOut A B p = act (Host.dotGeneral (F := Ideal) (φ₁ := .bf16) (φ₂ := .bf16) dot_S2048x2048_S2048x2048_S2048x2048_1_0_0_1_n_n none A B p) := rfl
  rw [h]
  refine congrArg act ?_
  rw [e]
  exact ref_prod A B _ _

end Reference

open Cert.KernelIdeal Cert.KernelIdeal.Gen

variable (m : (ℓ : Loc nD τ sig) → Buf (Elt Ideal) ℓ) (ρ : Dev nD → PrngReg)

/-- If the devices' operands are their blocks of two whole arrays, every device's result is the reference's of those. -/
theorem out_ref (A B : Mat ⟨2, ![2048, 2048]⟩)
    (hA : ∀ c : Dev nD, m ((c : Thread nD τ).loc main_arg0) = Layout.block ⟨2, ![2048, 128]⟩ ⟨2, ![2048, 2048]⟩ 1 16 c A)
    (hB : ∀ c : Dev nD, m ((c : Thread nD τ).loc main_arg1) = Layout.block ⟨2, ![128, 2048]⟩ ⟨2, ![2048, 2048]⟩ 0 16 c B)
    (c : Dev nD) : outOf m ρ c = refOut A B := by
  rw [ref_at]
  refine out_at_all ⟨fun d r k => ?_, fun d k s => ?_⟩ c
  · rw [xOf_eq, hA d, Layout.block_apply]
    refine congrArg A ?_
    funext a; apply Fin.ext
    rw [Layout.Tiles.idx_val]
    fin_cases a
    · rfl
    · exact congrArg (· + k.val) (Nat.mul_comm _ _)
  · rw [wOf_eq, hB d, Layout.block_apply]
    refine congrArg B ?_
    funext a; apply Fin.ext
    rw [Layout.Tiles.idx_val]
    fin_cases a
    · exact congrArg (· + k.val) (Nat.mul_comm _ _)
    · rfl

end Cert.Ring

end
-- ==== Proof.lean ====
/-
# The claims

Each of the certificate's claims from the program's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- For any float values: the program runs on the sixteen devices, its operands are unchanged and every semaphore is at
    zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.Ring.done_x (F := F) m ρ c), (h.1 c (1 : Fin 3)).trans (Cert.Ring.done_w (F := F) m ρ c)⟩, h.2⟩)
    (Cert.Ring.run_main (F := F) m ρ)

/-- The kernel as printed: it runs, its operands are unchanged and every semaphore is at zero. -/
theorem frame_kernel : Cert.quiescent_Kernel := fun m ρ _ => Cert.Ring.kernel_run _ _ (frame_any (F := Bits) m ρ)

/-- The same of the kernel in exact arithmetic. -/
theorem frame_kernelIdeal : Cert.quiescent_KernelIdeal := fun m ρ _ => frame_any (F := Ideal) m ρ

/-- The same of the reference, on one device. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel in exact arithmetic is the kernel as printed: no operation was rewritten. -/
theorem preserves : Cert.preserves_Kernel_KernelIdeal := trivial

/-- The kernel in exact arithmetic computes the reference: from operands that are the devices' blocks of the reference's,
    every device's result is the reference's result, and the operands of both are unchanged. -/
theorem algebraic : Cert.algebraic_KernelIdeal_ReferenceIdeal := by
  intro m g m' g' _ hag
  refine ⟨Cert.Ring.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, ?_, ?_⟩) (Cert.Ring.run_main (F := Ideal) m g)
    · exact ((h.1 c (2 : Fin 3)).trans (Cert.Ring.done_out (F := Ideal) m g c)).trans
        (Cert.Ring.out_ref m g _ _ (fun c => (hag c).1) (fun c => (hag c).2) c)
    · exact (h.1 c (0 : Fin 3)).trans (Cert.Ring.done_x (F := Ideal) m g c)
    · exact (h.1 c (1 : Fin 3)).trans (Cert.Ring.done_w (F := Ideal) m g c)
  · exact (θ_run Cert.ReferenceIdeal.defs _ _).mono (fun r h => h 0) (Cert.ReferenceIdeal.Value.run (F := Ideal) m' g')

/-- The claims together. -/
theorem claim : Cert.Claim :=
  ⟨Cert.Kernel.Gen.facts, Cert.KernelIdeal.Gen.facts, Cert.ReferenceIdeal.Gen.facts, frame_kernel, frame_kernelIdeal, frame_referenceIdeal, preserves, algebraic⟩

end Cert.Proof

end
